-- ==== Defs.lean ====
def Pre_Kernel [hPre_pinned : Cert.Pre_pinned.Facts] (m : (ℓ : Loc Cert.Kernel.nD Cert.Kernel.τ Cert.Kernel.sig) → Buf (Elt Bits) ℓ) : Prop :=
  ∀ c : Dev Cert.Kernel.nD,
    (Cert.Pre_pinned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_pinned : Cert.Pre_pinned.Facts] (m : (ℓ : Loc Cert.KernelIdeal.nD Cert.KernelIdeal.τ Cert.KernelIdeal.sig) → Buf (Elt Ideal) ℓ) : Prop :=
  ∀ c : Dev Cert.KernelIdeal.nD,
    (Cert.Pre_pinned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_pinned_finite [hPre_pinned_finite : Cert.Pre_pinned_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pinned_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pinned_finite [hPre_pinned_finite : Cert.Pre_pinned_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pinned_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 [hPre_pinned2 : Cert.Pre_pinned2.Facts] (m : (ℓ : Loc Cert.Kernel2.nD Cert.Kernel2.τ Cert.Kernel2.sig) → Buf (Elt Bits) ℓ) : Prop :=
  ∀ c : Dev Cert.Kernel2.nD,
    (Cert.Pre_pinned2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_pinned2 : Cert.Pre_pinned2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pinned2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pinned2 [hPre_pinned2 : Cert.Pre_pinned2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pinned2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 [hPre_drawn3 : Cert.Pre_drawn3.Facts] (m : (ℓ : Loc Cert.Kernel3.nD Cert.Kernel3.τ Cert.Kernel3.sig) → Buf (Elt Bits) ℓ) : Prop :=
  ∀ c : Dev Cert.Kernel3.nD,
    (Cert.Pre_drawn3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_drawn3 : Cert.Pre_drawn3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_drawn3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_drawn3 [hPre_drawn3 : Cert.Pre_drawn3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_drawn3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] [hPre_pinned : Cert.Pre_pinned.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_pinned : Cert.Pre_pinned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pinned_finite [hKernelIdeal : Cert.KernelIdeal.Facts] [hPre_pinned_finite : Cert.Pre_pinned_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pinned_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pinned_finite [hReferenceIdeal : Cert.ReferenceIdeal.Facts] [hPre_pinned_finite : Cert.Pre_pinned_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pinned_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] [hPre_pinned2 : Cert.Pre_pinned2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_pinned2 : Cert.Pre_pinned2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_pinned2 [hReference2Ideal : Cert.Reference2Ideal.Facts] [hPre_pinned2 : Cert.Pre_pinned2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pinned2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_drawn3 : Cert.Pre_drawn3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_drawn3 : Cert.Pre_drawn3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_drawn3 [hReference3Ideal : Cert.Reference3Ideal.Facts] [hPre_drawn3 : Cert.Pre_drawn3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_drawn3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_pinned_finite [hKernelIdeal : Cert.KernelIdeal.Facts] [hReferenceIdeal : Cert.ReferenceIdeal.Facts] [hPre_pinned_finite : Cert.Pre_pinned_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pinned_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] [hPre_pinned2 : Cert.Pre_pinned2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_drawn3 : Cert.Pre_drawn3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_pinned : Cert.Pre_pinned.Facts) (hPre_pinned_finite : Cert.Pre_pinned_finite.Facts) (hPre_pinned2 : Cert.Pre_pinned2.Facts) (hPre_drawn3 : Cert.Pre_drawn3.Facts),
    quiescent_Kernel (hKernel := hKernel) (hPre_pinned := hPre_pinned)
    ∧ quiescent_KernelIdeal (hKernelIdeal := hKernelIdeal) (hPre_pinned := hPre_pinned)
    ∧ quiescent_KernelIdeal_pre_pinned_finite (hKernelIdeal := hKernelIdeal) (hPre_pinned_finite := hPre_pinned_finite)
    ∧ quiescent_ReferenceIdeal (hReferenceIdeal := hReferenceIdeal)
    ∧ quiescent_ReferenceIdeal_pre_pinned_finite (hReferenceIdeal := hReferenceIdeal) (hPre_pinned_finite := hPre_pinned_finite)
    ∧ quiescent_Kernel2 (hKernel2 := hKernel2) (hPre_pinned2 := hPre_pinned2)
    ∧ quiescent_Kernel2Ideal (hKernel2Ideal := hKernel2Ideal) (hPre_pinned2 := hPre_pinned2)
    ∧ quiescent_Reference2Ideal (hReference2Ideal := hReference2Ideal)
    ∧ quiescent_Reference2Ideal_pre_pinned2 (hReference2Ideal := hReference2Ideal) (hPre_pinned2 := hPre_pinned2)
    ∧ quiescent_Kernel3 (hKernel3 := hKernel3) (hPre_drawn3 := hPre_drawn3)
    ∧ quiescent_Kernel3Ideal (hKernel3Ideal := hKernel3Ideal) (hPre_drawn3 := hPre_drawn3)
    ∧ quiescent_Reference3Ideal (hReference3Ideal := hReference3Ideal)
    ∧ quiescent_Reference3Ideal_pre_drawn3 (hReference3Ideal := hReference3Ideal) (hPre_drawn3 := hPre_drawn3)
    ∧ preserves_Kernel_KernelIdeal
    ∧ algebraic_KernelIdeal_ReferenceIdeal_pre_pinned_finite (hKernelIdeal := hKernelIdeal) (hReferenceIdeal := hReferenceIdeal) (hPre_pinned_finite := hPre_pinned_finite)
    ∧ preserves_Kernel2_Kernel2Ideal
    ∧ algebraic_Kernel2Ideal_Reference2Ideal (hKernel2Ideal := hKernel2Ideal) (hReference2Ideal := hReference2Ideal) (hPre_pinned2 := hPre_pinned2)
    ∧ preserves_Kernel3_Kernel3Ideal
    ∧ algebraic_Kernel3Ideal_Reference3Ideal (hKernel3Ideal := hKernel3Ideal) (hReference3Ideal := hReference3Ideal) (hPre_drawn3 := hPre_drawn3)
-- ==== Pre_drawn3.lean ====
abbrev S140 : Shape := ⟨1, ![140]⟩
abbrev S1 : Shape := ⟨1, ![1]⟩
abbrev S71680x2048 : Shape := ⟨2, ![71680, 2048]⟩
abbrev S1x2048 : Shape := ⟨2, ![1, 2048]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S140 : S_.BroadcastsInDim S140 (![] : Fin 0 → Fin S140.rank)
  reducesTo_S140_S_d0 : S140.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S140 32) (main_arg1 : IVec S1 32) (main_arg2 : FVec F S71680x2048 .f32) (main_arg3 : FVec F S1x2048 .f32) (main_arg4 : FVec F S8x2048x7168 .bf16) (main_arg5 : FVec F S8x2048x7168 .bf16) (main_arg6 : FVec F S8x7168x2048 .bf16) : IVec S_ 1 :=
  let main_c : IVec S_ 32 := constantI S_ 32 0#32
  let main_v0 : IVec S140 32 := broadcastInDim S140 ![] bcast_S_S140 main_c
  let main_v1 : IVec S140 1 := cmpi .sge main_arg0 main_v0
  let main_c_0 : IVec S_ 1 := constantI S_ 1 1#1
  let main_v2 : IVec S_ 1 := (fun x v => Host.reduce IntOp.andi x v reducesTo_S140_S_d0 h_S_) main_v1 main_c_0
  let main_c_1 : IVec S_ 32 := constantI S_ 32 8#32
  let main_v3 : IVec S140 32 := broadcastInDim S140 ![] bcast_S_S140 main_c_1
  let main_v4 : IVec S140 1 := cmpi .slt main_arg0 main_v3
  let main_c_2 : IVec S_ 1 := constantI S_ 1 1#1
  let main_v5 : IVec S_ 1 := (fun x v => Host.reduce IntOp.andi x v reducesTo_S140_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Pre_pinned.lean ====
abbrev S136 : Shape := ⟨1, ![136]⟩
abbrev S16x4x8192x256 : Shape := ⟨4, ![16, 4, 8192, 256]⟩
abbrev S16x4x8192x128 : Shape := ⟨4, ![16, 4, 8192, 128]⟩
abbrev S4x8192x128 : Shape := ⟨3, ![4, 8192, 128]⟩
abbrev S32768x7168 : Shape := ⟨2, ![32768, 7168]⟩
abbrev S114688x2048 : Shape := ⟨2, ![114688, 2048]⟩
abbrev S_ : Shape := ⟨0, ![]⟩

class Facts : Prop where
  bcast_S_S136 : S_.BroadcastsInDim S136 (![] : Fin 0 → Fin S136.rank)
  natLt_1_32 : 1 < 32
  reducesTo_S136_S_d0 : S136.ReducesTo [0] S_
  h_S_ : 0 < S_.numel

variable [Facts]

def fn_where {F : FTy → Type} [FloatOps F] (arg0 : IVec S136 1) (arg1 : IVec S136 32) (arg2 : IVec S136 32) : IVec S136 32 :=
  let v0 : IVec S136 32 := select arg0 arg1 arg2
  v0

def fn_floor_divide {F : FTy → Type} [FloatOps F] (arg0 : IVec S136 32) (arg1 : IVec S_ 32) : IVec S136 32 :=
  let v0 : IVec S_ 32 := id arg1
  let v1 : IVec S136 32 := broadcastInDim S136 ![] bcast_S_S136 v0
  let v2 : IVec S136 32 := Host.divsi arg0 v1
  let v3 : IVec S136 32 := signi arg0
  let v4 : IVec S_ 32 := signi v0
  let v5 : IVec S136 32 := broadcastInDim S136 ![] bcast_S_S136 v4
  let v6 : IVec S136 1 := cmpi .ne v3 v5
  let v7 : IVec S136 32 := broadcastInDim S136 ![] bcast_S_S136 v0
  let v8 : IVec S136 32 := Host.remsi arg0 v7
  let c : IVec S_ 32 := constantI S_ 32 0#32
  let v9 : IVec S136 32 := broadcastInDim S136 ![] bcast_S_S136 c
  let v10 : IVec S136 1 := cmpi .ne v8 v9
  let v11 : IVec S136 1 := andi v6 v10
  let c_0 : IVec S_ 32 := constantI S_ 32 1#32
  let v12 : IVec S136 32 := broadcastInDim S136 ![] bcast_S_S136 c_0
  let v13 : IVec S136 32 := subi v2 v12
  let v14 : IVec S136 32 := fn_where (F := F) v11 v13 v2
  v14

def fn_part3 {F : FTy → Type} [FloatOps F] (main_arg0 : IVec S136 32) (main_arg1 : IVec S136 32) (main_v0 : IVec S136 32) (main_v53 : IVec S136 32) (main_v56 : IVec S136 32) : IVec S_ 1 :=
  let main_v57 : IVec S136 32 := addi main_v53 main_v56
  let main_c_14 : IVec S_ 32 := constantI S_ 32 120#32
  let main_v58 : IVec S136 32 := broadcastInDim S136 ![] bcast_S_S136 main_c_14
  let main_v59 : IVec S136 1 := cmpi .sge main_v0 main_v58
  let main_v60 : IVec S136 32 := (extui 32 · natLt_1_32) main_v59
  let main_v61 : IVec S136 32 := addi main_v57 main_v60
  let main_c_15 : IVec S_ 32 := constantI S_ 32 1#32
  let main_v62 : IVec S136 32 := broadcastInDim S136 ![] bcast_S_S136 main_c_15
  let main_v63 : IVec S136 32 := addi main_v61 main_v62
  let main_v64 : IVec S136 32 := muli main_v61 main_v63
  let main_c_16 : IVec S_ 32 := constantI S_ 32 2#32
  let main_v65 : IVec S136 32 := fn_floor_divide (F := F) main_v64 main_c_16
  let main_v66 : IVec S136 32 := subi main_v0 main_v65
  let main_v67 : IVec S136 1 := cmpi .eq main_arg0 main_v61
  let main_c_17 : IVec S_ 1 := constantI S_ 1 1#1
  let main_v68 : IVec S_ 1 := (fun x v => Host.reduce IntOp.andi x v reducesTo_S136_S_d0 h_S_) main_v67 main_c_17
  let main_v69 : IVec S136 1 := cmpi .eq main_arg1 main_v66
  let main_c_18 : IVec S_ 1 := constantI S_ 1 1#1
  let main_v70 : IVec S_ 1 := (fun x v => Host.reduce IntOp.andi x v reducesTo_S136_S_d0 h_S_) main_v69 main_c_18
  let main_v71 : IVec S_ 1 := andi main_v68 main_v70
  main_v71

def fn_part2 {F : FTy → Type} [FloatOps F] (main_arg0 : IVec S136 32) (main_arg1 : IVec S136 32) (main_v0 : IVec S136 32) (main_v37 : IVec S136 32) : IVec S_ 1 :=
  let main_c_9 : IVec S_ 32 := constantI S_ 32 55#32
  let main_v38 : IVec S136 32 := broadcastInDim S136 ![] bcast_S_S136 main_c_9
  let main_v39 : IVec S136 1 := cmpi .sge main_v0 main_v38
  let main_v40 : IVec S136 32 := (extui 32 · natLt_1_32) main_v39
  let main_v41 : IVec S136 32 := addi main_v37 main_v40
  let main_c_10 : IVec S_ 32 := constantI S_ 32 66#32
  let main_v42 : IVec S136 32 := broadcastInDim S136 ![] bcast_S_S136 main_c_10
  let main_v43 : IVec S136 1 := cmpi .sge main_v0 main_v42
  let main_v44 : IVec S136 32 := (extui 32 · natLt_1_32) main_v43
  let main_v45 : IVec S136 32 := addi main_v41 main_v44
  let main_c_11 : IVec S_ 32 := constantI S_ 32 78#32
  let main_v46 : IVec S136 32 := broadcastInDim S136 ![] bcast_S_S136 main_c_11
  let main_v47 : IVec S136 1 := cmpi .sge main_v0 main_v46
  let main_v48 : IVec S136 32 := (extui 32 · natLt_1_32) main_v47
  let main_v49 : IVec S136 32 := addi main_v45 main_v48
  let main_c_12 : IVec S_ 32 := constantI S_ 32 91#32
  let main_v50 : IVec S136 32 := broadcastInDim S136 ![] bcast_S_S136 main_c_12
  let main_v51 : IVec S136 1 := cmpi .sge main_v0 main_v50
  let main_v52 : IVec S136 32 := (extui 32 · natLt_1_32) main_v51
  let main_v53 : IVec S136 32 := addi main_v49 main_v52
  let main_c_13 : IVec S_ 32 := constantI S_ 32 105#32
  let main_v54 : IVec S136 32 := broadcastInDim S136 ![] bcast_S_S136 main_c_13
  let main_v55 : IVec S136 1 := cmpi .sge main_v0 main_v54
  let main_v56 : IVec S136 32 := (extui 32 · natLt_1_32) main_v55
  fn_part3 (F := F) main_arg0 main_arg1 main_v0 main_v53 main_v56

def fn_part1 {F : FTy → Type} [FloatOps F] (main_arg0 : IVec S136 32) (main_arg1 : IVec S136 32) (main_v0 : IVec S136 32) (main_v17 : IVec S136 32) (main_c_4 : IVec S_ 32) : IVec S_ 1 :=
  let main_v18 : IVec S136 32 := broadcastInDim S136 ![] bcast_S_S136 main_c_4
  let main_v19 : IVec S136 1 := cmpi .sge main_v0 main_v18
  let main_v20 : IVec S136 32 := (extui 32 · natLt_1_32) main_v19
  let main_v21 : IVec S136 32 := addi main_v17 main_v20
  let main_c_5 : IVec S_ 32 := constantI S_ 32 21#32
  let main_v22 : IVec S136 32 := broadcastInDim S136 ![] bcast_S_S136 main_c_5
  let main_v23 : IVec S136 1 := cmpi .sge main_v0 main_v22
  let main_v24 : IVec S136 32 := (extui 32 · natLt_1_32) main_v23
  let main_v25 : IVec S136 32 := addi main_v21 main_v24
  let main_c_6 : IVec S_ 32 := constantI S_ 32 28#32
  let main_v26 : IVec S136 32 := broadcastInDim S136 ![] bcast_S_S136 main_c_6
  let main_v27 : IVec S136 1 := cmpi .sge main_v0 main_v26
  let main_v28 : IVec S136 32 := (extui 32 · natLt_1_32) main_v27
  let main_v29 : IVec S136 32 := addi main_v25 main_v28
  let main_c_7 : IVec S_ 32 := constantI S_ 32 36#32
  let main_v30 : IVec S136 32 := broadcastInDim S136 ![] bcast_S_S136 main_c_7
  let main_v31 : IVec S136 1 := cmpi .sge main_v0 main_v30
  let main_v32 : IVec S136 32 := (extui 32 · natLt_1_32) main_v31
  let main_v33 : IVec S136 32 := addi main_v29 main_v32
  let main_c_8 : IVec S_ 32 := constantI S_ 32 45#32
  let main_v34 : IVec S136 32 := broadcastInDim S136 ![] bcast_S_S136 main_c_8
  let main_v35 : IVec S136 1 := cmpi .sge main_v0 main_v34
  let main_v36 : IVec S136 32 := (extui 32 · natLt_1_32) main_v35
  let main_v37 : IVec S136 32 := addi main_v33 main_v36
  fn_part2 (F := F) main_arg0 main_arg1 main_v0 main_v37

def fn {F : FTy → Type} [FloatOps F] (main_arg0 : IVec S136 32) (main_arg1 : IVec S136 32) (main_arg2 : FVec F S16x4x8192x256 .bf16) (main_arg3 : FVec F S16x4x8192x128 .bf16) (main_arg4 : FVec F S4x8192x128 .bf16) (main_arg5 : FVec F S16x4x8192x128 .bf16) (main_arg6 : FVec F S32768x7168 .f32) (main_arg7 : FVec F S32768x7168 .f32) (main_arg8 : FVec F S114688x2048 .f32) : IVec S_ 1 :=
  let main_v0 : IVec S136 32 := iotaInDim S136 32 0
  let main_c : IVec S_ 32 := constantI S_ 32 0#32
  let main_v1 : IVec S136 32 := broadcastInDim S136 ![] bcast_S_S136 main_c
  let main_c_0 : IVec S_ 32 := constantI S_ 32 1#32
  let main_v2 : IVec S136 32 := broadcastInDim S136 ![] bcast_S_S136 main_c_0
  let main_v3 : IVec S136 1 := cmpi .sge main_v0 main_v2
  let main_v4 : IVec S136 32 := (extui 32 · natLt_1_32) main_v3
  let main_v5 : IVec S136 32 := addi main_v1 main_v4
  let main_c_1 : IVec S_ 32 := constantI S_ 32 3#32
  let main_v6 : IVec S136 32 := broadcastInDim S136 ![] bcast_S_S136 main_c_1
  let main_v7 : IVec S136 1 := cmpi .sge main_v0 main_v6
  let main_v8 : IVec S136 32 := (extui 32 · natLt_1_32) main_v7
  let main_v9 : IVec S136 32 := addi main_v5 main_v8
  let main_c_2 : IVec S_ 32 := constantI S_ 32 6#32
  let main_v10 : IVec S136 32 := broadcastInDim S136 ![] bcast_S_S136 main_c_2
  let main_v11 : IVec S136 1 := cmpi .sge main_v0 main_v10
  let main_v12 : IVec S136 32 := (extui 32 · natLt_1_32) main_v11
  let main_v13 : IVec S136 32 := addi main_v9 main_v12
  let main_c_3 : IVec S_ 32 := constantI S_ 32 10#32
  let main_v14 : IVec S136 32 := broadcastInDim S136 ![] bcast_S_S136 main_c_3
  let main_v15 : IVec S136 1 := cmpi .sge main_v0 main_v14
  let main_v16 : IVec S136 32 := (extui 32 · natLt_1_32) main_v15
  let main_v17 : IVec S136 32 := addi main_v13 main_v16
  let main_c_4 : IVec S_ 32 := constantI S_ 32 15#32
  fn_part1 (F := F) main_arg0 main_arg1 main_v0 main_v17 main_c_4
-- ==== Pre_pinned2.lean ====
abbrev S64 : Shape := ⟨1, ![64]⟩
abbrev S1 : Shape := ⟨1, ![1]⟩
abbrev S32768x2048 : Shape := ⟨2, ![32768, 2048]⟩
abbrev S1x2048 : Shape := ⟨2, ![1, 2048]⟩
abbrev S1x2048x7168 : Shape := ⟨3, ![1, 2048, 7168]⟩
abbrev S1x7168x2048 : Shape := ⟨3, ![1, 7168, 2048]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S64 32) (main_arg1 : IVec S1 32) (main_arg2 : FVec F S32768x2048 .f32) (main_arg3 : FVec F S1x2048 .f32) (main_arg4 : FVec F S1x2048x7168 .bf16) (main_arg5 : FVec F S1x2048x7168 .bf16) (main_arg6 : FVec F S1x7168x2048 .bf16) : IVec S_ 1 :=
  let main_c : IVec S_ 32 := constantI S_ 32 0#32
  let main_v0 : IVec S64 32 := broadcastInDim S64 ![] bcast_S_S64 main_c
  let main_v1 : IVec S64 1 := cmpi .eq main_arg0 main_v0
  let main_c_0 : IVec S_ 1 := constantI S_ 1 1#1
  let main_v2 : IVec S_ 1 := (fun x v => Host.reduce IntOp.andi x v reducesTo_S64_S_d0 h_S_) main_v1 main_c_0
  let main_c_1 : IVec S_ 32 := constantI S_ 32 64#32
  let main_v3 : IVec S1 32 := broadcastInDim S1 ![] bcast_S_S1 main_c_1
  let main_v4 : IVec S1 1 := cmpi .eq main_arg1 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_pinned_finite.lean ====
abbrev S136 : Shape := ⟨1, ![136]⟩
abbrev S16x4x8192x256 : Shape := ⟨4, ![16, 4, 8192, 256]⟩
abbrev S16x4x8192x128 : Shape := ⟨4, ![16, 4, 8192, 128]⟩
abbrev S4x8192x128 : Shape := ⟨3, ![4, 8192, 128]⟩
abbrev S32768x7168 : Shape := ⟨2, ![32768, 7168]⟩
abbrev S114688x2048 : Shape := ⟨2, ![114688, 2048]⟩
abbrev S_ : Shape := ⟨0, ![]⟩

class Facts : Prop where
  bcast_S_S136 : S_.BroadcastsInDim S136 (![] : Fin 0 → Fin S136.rank)
  natLt_1_32 : 1 < 32
  reducesTo_S136_S_d0 : S136.ReducesTo [0] S_
  h_S_ : 0 < S_.numel
  bcast_S_S16x4x8192x256 : S_.BroadcastsInDim S16x4x8192x256 (![] : Fin 0 → Fin S16x4x8192x256.rank)
  reducesTo_S16x4x8192x256_S_d0_1_2_3 : S16x4x8192x256.ReducesTo [0, 1, 2, 3] S_
  bcast_S_S16x4x8192x128 : S_.BroadcastsInDim S16x4x8192x128 (![] : Fin 0 → Fin S16x4x8192x128.rank)
  reducesTo_S16x4x8192x128_S_d0_1_2_3 : S16x4x8192x128.ReducesTo [0, 1, 2, 3] S_
  bcast_S_S4x8192x128 : S_.BroadcastsInDim S4x8192x128 (![] : Fin 0 → Fin S4x8192x128.rank)
  reducesTo_S4x8192x128_S_d0_1_2 : S4x8192x128.ReducesTo [0, 1, 2] S_

variable [Facts]

def fn_where {F : FTy → Type} [FloatOps F] (arg0 : IVec S136 1) (arg1 : IVec S136 32) (arg2 : IVec S136 32) : IVec S136 32 :=
  let v0 : IVec S136 32 := select arg0 arg1 arg2
  v0

def fn_floor_divide {F : FTy → Type} [FloatOps F] (arg0 : IVec S136 32) (arg1 : IVec S_ 32) : IVec S136 32 :=
  let v0 : IVec S_ 32 := id arg1
  let v1 : IVec S136 32 := broadcastInDim S136 ![] bcast_S_S136 v0
  let v2 : IVec S136 32 := Host.divsi arg0 v1
  let v3 : IVec S136 32 := signi arg0
  let v4 : IVec S_ 32 := signi v0
  let v5 : IVec S136 32 := broadcastInDim S136 ![] bcast_S_S136 v4
  let v6 : IVec S136 1 := cmpi .ne v3 v5
  let v7 : IVec S136 32 := broadcastInDim S136 ![] bcast_S_S136 v0
  let v8 : IVec S136 32 := Host.remsi arg0 v7
  let c : IVec S_ 32 := constantI S_ 32 0#32
  let v9 : IVec S136 32 := broadcastInDim S136 ![] bcast_S_S136 c
  let v10 : IVec S136 1 := cmpi .ne v8 v9
  let v11 : IVec S136 1 := andi v6 v10
  let c_0 : IVec S_ 32 := constantI S_ 32 1#32
  let v12 : IVec S136 32 := broadcastInDim S136 ![] bcast_S_S136 c_0
  let v13 : IVec S136 32 := subi v2 v12
  let v14 : IVec S136 32 := fn_where (F := F) v11 v13 v2
  v14

def fn_part4 {F : FTy → Type} [FloatOps F] (main_arg3 : FVec F S16x4x8192x128 .bf16) (main_arg4 : FVec F S4x8192x128 .bf16) (main_v71 : IVec S_ 1) (main_v74 : IVec S16x4x8192x256 1) : IVec S_ 1 :=
  let main_c_19 : IVec S_ 1 := constantI S_ 1 1#1
  let main_v75 : IVec S_ 1 := (fun x v => Host.reduce IntOp.andi x v reducesTo_S16x4x8192x256_S_d0_1_2_3 h_S_) main_v74 main_c_19
  let main_v76 : IVec S_ 1 := andi main_v71 main_v75
  let main_v77 : FVec F S16x4x8192x128 .bf16 := Host.absf main_arg3
  let main_cst_20 : FVec F S_ .bf16 := constant S_ .bf16 0x7F80#16
  let main_v78 : FVec F S16x4x8192x128 .bf16 := broadcastInDim S16x4x8192x128 ![] bcast_S_S16x4x8192x128 main_cst_20
  let main_v79 : IVec S16x4x8192x128 1 := cmpf .olt main_v77 main_v78
  let main_c_21 : IVec S_ 1 := constantI S_ 1 1#1
  let main_v80 : IVec S_ 1 := (fun x v => Host.reduce IntOp.andi x v reducesTo_S16x4x8192x128_S_d0_1_2_3 h_S_) main_v79 main_c_21
  let main_v81 : IVec S_ 1 := andi main_v76 main_v80
  let main_v82 : FVec F S4x8192x128 .bf16 := Host.absf main_arg4
  let main_cst_22 : FVec F S_ .bf16 := constant S_ .bf16 0x7F80#16
  let main_v83 : FVec F S4x8192x128 .bf16 := broadcastInDim S4x8192x128 ![] bcast_S_S4x8192x128 main_cst_22
  let main_v84 : IVec S4x8192x128 1 := cmpf .olt main_v82 main_v83
  let main_c_23 : IVec S_ 1 := constantI S_ 1 1#1
  let main_v85 : IVec S_ 1 := (fun x v => Host.reduce IntOp.andi x v reducesTo_S4x8192x128_S_d0_1_2 h_S_) main_v84 main_c_23
  let main_v86 : IVec S_ 1 := andi main_v81 main_v85
  main_v86

def fn_part3 {F : FTy → Type} [FloatOps F] (main_arg0 : IVec S136 32) (main_arg1 : IVec S136 32) (main_arg2 : FVec F S16x4x8192x256 .bf16) (main_arg3 : FVec F S16x4x8192x128 .bf16) (main_arg4 : FVec F S4x8192x128 .bf16) (main_v0 : IVec S136 32) (main_v53 : IVec S136 32) (main_v56 : IVec S136 32) : IVec S_ 1 :=
  let main_v57 : IVec S136 32 := addi main_v53 main_v56
  let main_c_14 : IVec S_ 32 := constantI S_ 32 120#32
  let main_v58 : IVec S136 32 := broadcastInDim S136 ![] bcast_S_S136 main_c_14
  let main_v59 : IVec S136 1 := cmpi .sge main_v0 main_v58
  let main_v60 : IVec S136 32 := (extui 32 · natLt_1_32) main_v59
  let main_v61 : IVec S136 32 := addi main_v57 main_v60
  let main_c_15 : IVec S_ 32 := constantI S_ 32 1#32
  let main_v62 : IVec S136 32 := broadcastInDim S136 ![] bcast_S_S136 main_c_15
  let main_v63 : IVec S136 32 := addi main_v61 main_v62
  let main_v64 : IVec S136 32 := muli main_v61 main_v63
  let main_c_16 : IVec S_ 32 := constantI S_ 32 2#32
  let main_v65 : IVec S136 32 := fn_floor_divide (F := F) main_v64 main_c_16
  let main_v66 : IVec S136 32 := subi main_v0 main_v65
  let main_v67 : IVec S136 1 := cmpi .eq main_arg0 main_v61
  let main_c_17 : IVec S_ 1 := constantI S_ 1 1#1
  let main_v68 : IVec S_ 1 := (fun x v => Host.reduce IntOp.andi x v reducesTo_S136_S_d0 h_S_) main_v67 main_c_17
  let main_v69 : IVec S136 1 := cmpi .eq main_arg1 main_v66
  let main_c_18 : IVec S_ 1 := constantI S_ 1 1#1
  let main_v70 : IVec S_ 1 := (fun x v => Host.reduce IntOp.andi x v reducesTo_S136_S_d0 h_S_) main_v69 main_c_18
  let main_v71 : IVec S_ 1 := andi main_v68 main_v70
  let main_v72 : FVec F S16x4x8192x256 .bf16 := Host.absf main_arg2
  let main_cst : FVec F S_ .bf16 := constant S_ .bf16 0x7F80#16
  let main_v73 : FVec F S16x4x8192x256 .bf16 := broadcastInDim S16x4x8192x256 ![] bcast_S_S16x4x8192x256 main_cst
  let main_v74 : IVec S16x4x8192x256 1 := cmpf .olt main_v72 main_v73
  fn_part4 (F := F) main_arg3 main_arg4 main_v71 main_v74

def fn_part2 {F : FTy → Type} [FloatOps F] (main_arg0 : IVec S136 32) (main_arg1 : IVec S136 32) (main_arg2 : FVec F S16x4x8192x256 .bf16) (main_arg3 : FVec F S16x4x8192x128 .bf16) (main_arg4 : FVec F S4x8192x128 .bf16) (main_v0 : IVec S136 32) (main_v37 : IVec S136 32) : IVec S_ 1 :=
  let main_c_9 : IVec S_ 32 := constantI S_ 32 55#32
  let main_v38 : IVec S136 32 := broadcastInDim S136 ![] bcast_S_S136 main_c_9
  let main_v39 : IVec S136 1 := cmpi .sge main_v0 main_v38
  let main_v40 : IVec S136 32 := (extui 32 · natLt_1_32) main_v39
  let main_v41 : IVec S136 32 := addi main_v37 main_v40
  let main_c_10 : IVec S_ 32 := constantI S_ 32 66#32
  let main_v42 : IVec S136 32 := broadcastInDim S136 ![] bcast_S_S136 main_c_10
  let main_v43 : IVec S136 1 := cmpi .sge main_v0 main_v42
  let main_v44 : IVec S136 32 := (extui 32 · natLt_1_32) main_v43
  let main_v45 : IVec S136 32 := addi main_v41 main_v44
  let main_c_11 : IVec S_ 32 := constantI S_ 32 78#32
  let main_v46 : IVec S136 32 := broadcastInDim S136 ![] bcast_S_S136 main_c_11
  let main_v47 : IVec S136 1 := cmpi .sge main_v0 main_v46
  let main_v48 : IVec S136 32 := (extui 32 · natLt_1_32) main_v47
  let main_v49 : IVec S136 32 := addi main_v45 main_v48
  let main_c_12 : IVec S_ 32 := constantI S_ 32 91#32
  let main_v50 : IVec S136 32 := broadcastInDim S136 ![] bcast_S_S136 main_c_12
  let main_v51 : IVec S136 1 := cmpi .sge main_v0 main_v50
  let main_v52 : IVec S136 32 := (extui 32 · natLt_1_32) main_v51
  let main_v53 : IVec S136 32 := addi main_v49 main_v52
  let main_c_13 : IVec S_ 32 := constantI S_ 32 105#32
  let main_v54 : IVec S136 32 := broadcastInDim S136 ![] bcast_S_S136 main_c_13
  let main_v55 : IVec S136 1 := cmpi .sge main_v0 main_v54
  let main_v56 : IVec S136 32 := (extui 32 · natLt_1_32) main_v55
  fn_part3 (F := F) main_arg0 main_arg1 main_arg2 main_arg3 main_arg4 main_v0 main_v53 main_v56

def fn_part1 {F : FTy → Type} [FloatOps F] (main_arg0 : IVec S136 32) (main_arg1 : IVec S136 32) (main_arg2 : FVec F S16x4x8192x256 .bf16) (main_arg3 : FVec F S16x4x8192x128 .bf16) (main_arg4 : FVec F S4x8192x128 .bf16) (main_v0 : IVec S136 32) (main_v17 : IVec S136 32) (main_c_4 : IVec S_ 32) : IVec S_ 1 :=
  let main_v18 : IVec S136 32 := broadcastInDim S136 ![] bcast_S_S136 main_c_4
  let main_v19 : IVec S136 1 := cmpi .sge main_v0 main_v18
  let main_v20 : IVec S136 32 := (extui 32 · natLt_1_32) main_v19
  let main_v21 : IVec S136 32 := addi main_v17 main_v20
  let main_c_5 : IVec S_ 32 := constantI S_ 32 21#32
  let main_v22 : IVec S136 32 := broadcastInDim S136 ![] bcast_S_S136 main_c_5
  let main_v23 : IVec S136 1 := cmpi .sge main_v0 main_v22
  let main_v24 : IVec S136 32 := (extui 32 · natLt_1_32) main_v23
  let main_v25 : IVec S136 32 := addi main_v21 main_v24
  let main_c_6 : IVec S_ 32 := constantI S_ 32 28#32
  let main_v26 : IVec S136 32 := broadcastInDim S136 ![] bcast_S_S136 main_c_6
  let main_v27 : IVec S136 1 := cmpi .sge main_v0 main_v26
  let main_v28 : IVec S136 32 := (extui 32 · natLt_1_32) main_v27
  let main_v29 : IVec S136 32 := addi main_v25 main_v28
  let main_c_7 : IVec S_ 32 := constantI S_ 32 36#32
  let main_v30 : IVec S136 32 := broadcastInDim S136 ![] bcast_S_S136 main_c_7
  let main_v31 : IVec S136 1 := cmpi .sge main_v0 main_v30
  let main_v32 : IVec S136 32 := (extui 32 · natLt_1_32) main_v31
  let main_v33 : IVec S136 32 := addi main_v29 main_v32
  let main_c_8 : IVec S_ 32 := constantI S_ 32 45#32
  let main_v34 : IVec S136 32 := broadcastInDim S136 ![] bcast_S_S136 main_c_8
  let main_v35 : IVec S136 1 := cmpi .sge main_v0 main_v34
  let main_v36 : IVec S136 32 := (extui 32 · natLt_1_32) main_v35
  let main_v37 : IVec S136 32 := addi main_v33 main_v36
  fn_part2 (F := F) main_arg0 main_arg1 main_arg2 main_arg3 main_arg4 main_v0 main_v37

def fn {F : FTy → Type} [FloatOps F] (main_arg0 : IVec S136 32) (main_arg1 : IVec S136 32) (main_arg2 : FVec F S16x4x8192x256 .bf16) (main_arg3 : FVec F S16x4x8192x128 .bf16) (main_arg4 : FVec F S4x8192x128 .bf16) (main_arg5 : FVec F S16x4x8192x128 .bf16) (main_arg6 : FVec F S32768x7168 .f32) (main_arg7 : FVec F S32768x7168 .f32) (main_arg8 : FVec F S114688x2048 .f32) : IVec S_ 1 :=
  let main_v0 : IVec S136 32 := iotaInDim S136 32 0
  let main_c : IVec S_ 32 := constantI S_ 32 0#32
  let main_v1 : IVec S136 32 := broadcastInDim S136 ![] bcast_S_S136 main_c
  let main_c_0 : IVec S_ 32 := constantI S_ 32 1#32
  let main_v2 : IVec S136 32 := broadcastInDim S136 ![] bcast_S_S136 main_c_0
  let main_v3 : IVec S136 1 := cmpi .sge main_v0 main_v2
  let main_v4 : IVec S136 32 := (extui 32 · natLt_1_32) main_v3
  let main_v5 : IVec S136 32 := addi main_v1 main_v4
  let main_c_1 : IVec S_ 32 := constantI S_ 32 3#32
  let main_v6 : IVec S136 32 := broadcastInDim S136 ![] bcast_S_S136 main_c_1
  let main_v7 : IVec S136 1 := cmpi .sge main_v0 main_v6
  let main_v8 : IVec S136 32 := (extui 32 · natLt_1_32) main_v7
  let main_v9 : IVec S136 32 := addi main_v5 main_v8
  let main_c_2 : IVec S_ 32 := constantI S_ 32 6#32
  let main_v10 : IVec S136 32 := broadcastInDim S136 ![] bcast_S_S136 main_c_2
  let main_v11 : IVec S136 1 := cmpi .sge main_v0 main_v10
  let main_v12 : IVec S136 32 := (extui 32 · natLt_1_32) main_v11
  let main_v13 : IVec S136 32 := addi main_v9 main_v12
  let main_c_3 : IVec S_ 32 := constantI S_ 32 10#32
  let main_v14 : IVec S136 32 := broadcastInDim S136 ![] bcast_S_S136 main_c_3
  let main_v15 : IVec S136 1 := cmpi .sge main_v0 main_v14
  let main_v16 : IVec S136 32 := (extui 32 · natLt_1_32) main_v15
  let main_v17 : IVec S136 32 := addi main_v13 main_v16
  let main_c_4 : IVec S_ 32 := constantI S_ 32 15#32
  fn_part1 (F := F) main_arg0 main_arg1 main_arg2 main_arg3 main_arg4 main_v0 main_v17 main_c_4
-- ==== Kernel.lean ====
abbrev S136 : Shape := ⟨1, ![136]⟩
abbrev S16x4x8192x256 : Shape := ⟨4, ![16, 4, 8192, 256]⟩
abbrev S16x4x8192x128 : Shape := ⟨4, ![16, 4, 8192, 128]⟩
abbrev S4x8192x128 : Shape := ⟨3, ![4, 8192, 128]⟩
abbrev S32768x7168 : Shape := ⟨2, ![32768, 7168]⟩
abbrev S114688x2048 : Shape := ⟨2, ![114688, 2048]⟩
abbrev S4x8192x2048 : Shape := ⟨3, ![4, 8192, 2048]⟩
abbrev S16384x7168 : Shape := ⟨2, ![16384, 7168]⟩
abbrev S57344x2048 : Shape := ⟨2, ![57344, 2048]⟩
abbrev S16x1x512x256 : Shape := ⟨4, ![16, 1, 512, 256]⟩
abbrev S1 : Shape := ⟨1, ![1]⟩
abbrev S16x1x512x128 : Shape := ⟨4, ![16, 1, 512, 128]⟩
abbrev S1x512x128 : Shape := ⟨3, ![1, 512, 128]⟩
abbrev S32x7168 : Shape := ⟨2, ![32, 7168]⟩
abbrev S128x2048 : Shape := ⟨2, ![128, 2048]⟩
abbrev S1x512x2048 : Shape := ⟨3, ![1, 512, 2048]⟩
abbrev S16x512x128 : Shape := ⟨3, ![16, 512, 128]⟩
abbrev S512x128 : Shape := ⟨2, ![512, 128]⟩
abbrev S1x1x512x128 : Shape := ⟨4, ![1, 1, 512, 128]⟩
abbrev S512x256 : Shape := ⟨2, ![512, 256]⟩
abbrev S1x1x512x256 : Shape := ⟨4, ![1, 1, 512, 256]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 25
  | .smem => 2
  | _ => 0

abbrev bufTy : (tb : Table) → Fin (tcTables nBuf tb) → BufTy
  | .hbm, ⟨0, _⟩ => ⟨S16x4x8192x256, .bf16⟩
  | .hbm, ⟨1, _⟩ => ⟨S16x4x8192x128, .bf16⟩
  | .hbm, ⟨2, _⟩ => ⟨S4x8192x128, .bf16⟩
  | .hbm, ⟨3, _⟩ => ⟨S16x4x8192x128, .bf16⟩
  | .hbm, ⟨4, _⟩ => ⟨S32768x7168, .f32⟩
  | .hbm, ⟨5, _⟩ => ⟨S32768x7168, .f32⟩
  | .hbm, ⟨6, _⟩ => ⟨S114688x2048, .f32⟩
  | .hbm, ⟨7, _⟩ => ⟨S4x8192x2048, .bf16⟩
  | .hbm, ⟨8, _⟩ => ⟨S16384x7168, .bf16⟩
  | .hbm, ⟨9, _⟩ => ⟨S16384x7168, .bf16⟩
  | .hbm, ⟨10, _⟩ => ⟨S57344x2048, .bf16⟩
  | .local _ .vmem, ⟨0, _⟩ => ⟨S16x1x512x256, .bf16⟩
  | .local _ .vmem, ⟨1, _⟩ => ⟨S16x1x512x256, .bf16⟩
  | .local _ .vmem, ⟨2, _⟩ => ⟨S16x1x512x128, .bf16⟩
  | .local _ .vmem, ⟨3, _⟩ => ⟨S16x1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S16x1x512x128, .bf16⟩
  | .local _ .vmem, ⟨7, _⟩ => ⟨S16x1x512x128, .bf16⟩
  | .local _ .vmem, ⟨8, _⟩ => ⟨S32x7168, .f32⟩
  | .local _ .vmem, ⟨9, _⟩ => ⟨S32x7168, .f32⟩
  | .local _ .vmem, ⟨10, _⟩ => ⟨S32x7168, .f32⟩
  | .local _ .vmem, ⟨11, _⟩ => ⟨S32x7168, .f32⟩
  | .local _ .vmem, ⟨12, _⟩ => ⟨S128x2048, .f32⟩
  | .local _ .vmem, ⟨13, _⟩ => ⟨S128x2048, .f32⟩
  | .local _ .vmem, ⟨14, _⟩ => ⟨S1x512x2048, .bf16⟩
  | .local _ .vmem, ⟨15, _⟩ => ⟨S1x512x2048, .bf16⟩
  | .local _ .vmem, ⟨16, _⟩ => ⟨S32x7168, .bf16⟩
  | .local _ .vmem, ⟨17, _⟩ => ⟨S32x7168, .bf16⟩
  | .local _ .vmem, ⟨18, _⟩ => ⟨S32x7168, .bf16⟩
  | .local _ .vmem, ⟨19, _⟩ => ⟨S32x7168, .bf16⟩
  | .local _ .vmem, ⟨20, _⟩ => ⟨S128x2048, .bf16⟩
  | .local _ .vmem, ⟨21, _⟩ => ⟨S128x2048, .bf16⟩
  | .local _ .vmem, ⟨22, _⟩ => ⟨S16x512x128, .f32⟩
  | .local _ .vmem, ⟨23, _⟩ => ⟨S16x512x128, .f32⟩
  | .local _ .vmem, ⟨24, _⟩ => ⟨S16x512x128, .f32⟩
  | .local _ .smem, ⟨0, _⟩ => ⟨S136, .i32⟩
  | .local _ .smem, ⟨1, _⟩ => ⟨S136, .i32⟩
  | _, _ => ⟨S16x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (c0_i32_19 : BitVec 32) : Fin 4 → Nat :=
  let c16_i32 : BitVec 32 := 16#32
  let c0_i32_18 : BitVec 32 := 0#32
  let v28 : BitVec 32 := Scalar.muli c16_i32 c0_i32_18
  let v29 : BitVec 32 := Scalar.addi v28 c0_i32_19
  let v30 : Index := Scalar.indexCast v29
  let c0_20 : Index := 0#32
  let c0_21 : Index := 0#32
  let c0_22 : Index := 0#32
  ![v30.toNat, 0, 0, 0]
def k0_off3 (c0_i32_19 : BitVec 32) : Fin 4 → Nat :=
  let c16_i32 : BitVec 32 := 16#32
  let c0_i32_18 : BitVec 32 := 0#32
  let v28 : BitVec 32 := Scalar.muli c16_i32 c0_i32_18
  let v29 : BitVec 32 := Scalar.addi v28 c0_i32_19
  let v34 : Index := Scalar.indexCast v29
  let c0_23 : Index := 0#32
  let c0_24 : Index := 0#32
  let c0_25 : Index := 0#32
  ![v34.toNat, 0, 0, 0]
def k0_off4 (c0_i32_19 : BitVec 32) : Fin 3 → Nat :=
  let c16_i32 : BitVec 32 := 16#32
  let c0_i32_18 : BitVec 32 := 0#32
  let v28 : BitVec 32 := Scalar.muli c16_i32 c0_i32_18
  let v29 : BitVec 32 := Scalar.addi v28 c0_i32_19
  let v38 : Index := Scalar.indexCast v29
  let c0_27 : Index := 0#32
  let c0_28 : Index := 0#32
  ![v38.toNat, 0, 0]
def k0_off5 (c0_i32_31 : BitVec 32) : Fin 4 → Nat :=
  let c16_i32 : BitVec 32 := 16#32
  let c0_i32_30 : BitVec 32 := 0#32
  let v79 : BitVec 32 := Scalar.muli c16_i32 c0_i32_30
  let v80 : BitVec 32 := Scalar.addi v79 c0_i32_31
  let v81 : Index := Scalar.indexCast v80
  let c0_32 : Index := 0#32
  let c0_33 : Index := 0#32
  let c0_34 : Index := 0#32
  ![v81.toNat, 0, 0, 0]
def k0_off6 (c0_i32_31 : BitVec 32) : Fin 4 → Nat :=
  let c16_i32 : BitVec 32 := 16#32
  let c0_i32_30 : BitVec 32 := 0#32
  let v79 : BitVec 32 := Scalar.muli c16_i32 c0_i32_30
  let v80 : BitVec 32 := Scalar.addi v79 c0_i32_31
  let v85 : Index := Scalar.indexCast v80
  let c0_35 : Index := 0#32
  let c0_36 : Index := 0#32
  let c0_37 : Index := 0#32
  ![v85.toNat, 0, 0, 0]
def k0_off7 (c0_i32_31 : BitVec 32) : Fin 3 → Nat :=
  let c16_i32 : BitVec 32 := 16#32
  let c0_i32_30 : BitVec 32 := 0#32
  let v79 : BitVec 32 := Scalar.muli c16_i32 c0_i32_30
  let v80 : BitVec 32 := Scalar.addi v79 c0_i32_31
  let v91 : Index := Scalar.indexCast v80
  let c0_40 : Index := 0#32
  let c0_41 : Index := 0#32
  ![v91.toNat, 0, 0]
def k0_cond4 (v10 : BitVec 32) (v12 : BitVec 32) : BitVec 1 :=
  let v22 : BitVec 1 := Scalar.cmpi .eq v12 v10
  let v23 : BitVec 32 := Scalar.extui v22
  let c0_i32_14 : BitVec 32 := 0#32
  let v24 : BitVec 1 := Scalar.cmpi .ne v23 c0_i32_14
  v24

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, arg0.toNat, v1.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, arg0.toNat, v1.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![c0_i32.toNat, arg0.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c511_i32 : BitVec 32 := 511#32
  let v2 : BitVec 32 := Scalar.minsi v1 c511_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c511_i32 : BitVec 32 := 511#32
  let v2 : BitVec 32 := Scalar.minsi v1 c511_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c447_i32 : BitVec 32 := 447#32
  let v2 : BitVec 32 := Scalar.minsi v1 c447_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_7 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_8 (i : grid0.Coords) : Fin 2 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let v1 : BitVec 32 := Scalar.addi v0 arg1
  let c447_i32 : BitVec 32 := 447#32
  let v2 : BitVec 32 := Scalar.minsi v1 c447_i32
  let c0_i32 : BitVec 32 := 0#32
  let c0_i32_0 : BitVec 32 := 0#32
  ![v2.toNat, c0_i32.toNat]

abbrev stage0_0 : Fin 2 → Memref sig .tc .vmem S16x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x7168 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S136 : Shape := ⟨1, ![136]⟩
abbrev S16x4x8192x256 : Shape := ⟨4, ![16, 4, 8192, 256]⟩
abbrev S16x4x8192x128 : Shape := ⟨4, ![16, 4, 8192, 128]⟩
abbrev S4x8192x128 : Shape := ⟨3, ![4, 8192, 128]⟩
abbrev S32768x7168 : Shape := ⟨2, ![32768, 7168]⟩
abbrev S114688x2048 : Shape := ⟨2, ![114688, 2048]⟩
abbrev S8192 : Shape := ⟨1, ![8192]⟩
abbrev S_ : Shape := ⟨0, ![]⟩
abbrev S16x4x8192x8192 : Shape := ⟨4, ![16, 4, 8192, 8192]⟩
abbrev S4x8192x16x8192 : Shape := ⟨4, ![4, 8192, 16, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S16x4x8192 : Shape := ⟨3, ![16, 4, 8192]⟩
abbrev S16x4x8192x1 : Shape := ⟨4, ![16, 4, 8192, 1]⟩
abbrev S4x16x128x8192 : Shape := ⟨4, ![4, 16, 128, 8192]⟩
abbrev S4x8192x16x128 : Shape := ⟨4, ![4, 8192, 16, 128]⟩
abbrev S4x8192x2048 : Shape := ⟨3, ![4, 8192, 2048]⟩
abbrev S16384x7168 : Shape := ⟨2, ![16384, 7168]⟩
abbrev S57344x2048 : Shape := ⟨2, ![57344, 2048]⟩

abbrev nBuf : Space → Nat
  | .hbm => 59
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S16x4x8192x256, .bf16⟩
  | .hbm, ⟨3, _⟩ => ⟨S16x4x8192x128, .bf16⟩
  | .hbm, ⟨4, _⟩ => ⟨S4x8192x128, .bf16⟩
  | .hbm, ⟨5, _⟩ => ⟨S16x4x8192x128, .bf16⟩
  | .hbm, ⟨6, _⟩ => ⟨S32768x7168, .f32⟩
  | .hbm, ⟨7, _⟩ => ⟨S32768x7168, .f32⟩
  | .hbm, ⟨8, _⟩ => ⟨S114688x2048, .f32⟩
  | .hbm, ⟨9, _⟩ => ⟨S16x4x8192x128, .bf16⟩
  | .hbm, ⟨10, _⟩ => ⟨S16x4x8192x128, .bf16⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S16x4x8192x8192, .f32⟩
  | .hbm, ⟨16, _⟩ => ⟨S4x8192x16x8192, .f32⟩
  | .hbm, ⟨17, _⟩ => ⟨S16x4x8192x8192, .f32⟩
  | .hbm, ⟨18, _⟩ => ⟨S16x4x8192x8192, .f32⟩
  | .hbm, ⟨19, _⟩ => ⟨S_, .f32⟩
  | .hbm, ⟨20, _⟩ => ⟨S_, .f32⟩
  | .hbm, ⟨21, _⟩ => ⟨S16x4x8192x8192, .f32⟩
  | .hbm, ⟨22, _⟩ => ⟨S16x4x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x1x8192x8192, .i1⟩
  | .hbm, ⟨29, _⟩ => ⟨S_, .f32⟩
  | .hbm, ⟨30, _⟩ => ⟨S_, .f32⟩
  | .hbm, ⟨31, _⟩ => ⟨S16x4x8192x8192, .i1⟩
  | .hbm, ⟨32, _⟩ => ⟨S16x4x8192x8192, .f32⟩
  | .hbm, ⟨33, _⟩ => ⟨S16x4x8192x8192, .f32⟩
  | .hbm, ⟨34, _⟩ => ⟨S_, .f32⟩
  | .hbm, ⟨35, _⟩ => ⟨S16x4x8192, .f32⟩
  | .hbm, ⟨36, _⟩ => ⟨S_, .f32⟩
  | .hbm, ⟨37, _⟩ => ⟨S16x4x8192, .f32⟩
  | .hbm, ⟨38, _⟩ => ⟨S16x4x8192, .f32⟩
  | .hbm, ⟨39, _⟩ => ⟨S16x4x8192x1, .f32⟩
  | .hbm, ⟨40, _⟩ => ⟨S16x4x8192x8192, .f32⟩
  | .hbm, ⟨41, _⟩ => ⟨S16x4x8192x8192, .f32⟩
  | .hbm, ⟨42, _⟩ => ⟨S16x4x8192x8192, .f32⟩
  | .hbm, ⟨43, _⟩ => ⟨S_, .f32⟩
  | .hbm, ⟨44, _⟩ => ⟨S16x4x8192, .f32⟩
  | .hbm, ⟨45, _⟩ => ⟨S16x4x8192x1, .f32⟩
  | .hbm, ⟨46, _⟩ => ⟨S16x4x8192x8192, .f32⟩
  | .hbm, ⟨47, _⟩ => ⟨S16x4x8192x8192, .f32⟩
  | .hbm, ⟨48, _⟩ => ⟨S16x4x8192x8192, .bf16⟩
  | .hbm, ⟨49, _⟩ => ⟨S4x16x128x8192, .f32⟩
  | .hbm, ⟨50, _⟩ => ⟨S4x8192x16x128, .f32⟩
  | .hbm, ⟨51, _⟩ => ⟨S4x8192x16x128, .bf16⟩
  | .hbm, ⟨52, _⟩ => ⟨S4x8192x2048, .bf16⟩
  | .hbm, ⟨53, _⟩ => ⟨S16384x7168, .f32⟩
  | .hbm, ⟨54, _⟩ => ⟨S16384x7168, .bf16⟩
  | .hbm, ⟨55, _⟩ => ⟨S16384x7168, .f32⟩
  | .hbm, ⟨56, _⟩ => ⟨S16384x7168, .bf16⟩
  | .hbm, ⟨57, _⟩ => ⟨S57344x2048, .f32⟩
  | .hbm, ⟨58, _⟩ => ⟨S57344x2048, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel2.lean ====
abbrev S64 : Shape := ⟨1, ![64]⟩
abbrev S1 : Shape := ⟨1, ![1]⟩
abbrev S32768x2048 : Shape := ⟨2, ![32768, 2048]⟩
abbrev S1x2048 : Shape := ⟨2, ![1, 2048]⟩
abbrev S1x2048x7168 : Shape := ⟨3, ![1, 2048, 7168]⟩
abbrev S1x7168x2048 : Shape := ⟨3, ![1, 7168, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 6
  | .vmem => 12
  | .smem => 2
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x7168, .bf16⟩
  | .hbm, ⟨3, _⟩ => ⟨S1x2048x7168, .bf16⟩
  | .hbm, ⟨4, _⟩ => ⟨S1x7168x2048, .bf16⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .smem, ⟨0, _⟩ => ⟨S64, .i32⟩
  | .local _ .smem, ⟨1, _⟩ => ⟨S1, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_cond3 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S64.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S64) ![v2.toNat] S1.size (k0_off1_inb i)) numel1_S1
  let c6_i32 : BitVec 32 := 6#32
  let v4 : BitVec 32 := Scalar.select v1 arg1 c6_i32
  let c0_0 : Index := 0#32
  let v5 : BitVec 32 := pf.at 1 (Rect.unit (s := S1) ![0] S1.size inb_S1_S1_0) numel1_S1
  let v6 : BitVec 1 := Scalar.cmpi .slt arg0 v5
  let v7 : Index := Scalar.indexCast arg0
  let v8 : BitVec 32 := pf.at 0 (Rect.unit (s := S64) ![v7.toNat] S1.size (k0_off1_inb i)) numel1_S1
  let c6_i32_1 : BitVec 32 := 6#32
  let v9 : BitVec 32 := Scalar.select v6 arg1 c6_i32_1
  let c0_i32 : BitVec 32 := 0#32
  let c0_i32_2 : BitVec 32 := 0#32
  ![v3.toNat, c0_i32.toNat, v9.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S64.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S64) ![v2.toNat] S1.size (k0_off1_inb i)) numel1_S1
  let c6_i32 : BitVec 32 := 6#32
  let v4 : BitVec 32 := Scalar.select v1 arg1 c6_i32
  let c0_0 : Index := 0#32
  let v5 : BitVec 32 := pf.at 1 (Rect.unit (s := S1) ![0] S1.size inb_S1_S1_0) numel1_S1
  let v6 : BitVec 1 := Scalar.cmpi .slt arg0 v5
  let v7 : Index := Scalar.indexCast arg0
  let v8 : BitVec 32 := pf.at 0 (Rect.unit (s := S64) ![v7.toNat] S1.size (k0_off1_inb i)) numel1_S1
  let c6_i32_1 : BitVec 32 := 6#32
  let v9 : BitVec 32 := Scalar.select v6 arg1 c6_i32_1
  let c0_i32 : BitVec 32 := 0#32
  let c0_i32_2 : BitVec 32 := 0#32
  ![v3.toNat, c0_i32.toNat, v9.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S64.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S64) ![v2.toNat] S1.size (k0_off1_inb i)) numel1_S1
  let c6_i32 : BitVec 32 := 6#32
  let v4 : BitVec 32 := Scalar.select v1 arg1 c6_i32
  let c0_0 : Index := 0#32
  let v5 : BitVec 32 := pf.at 1 (Rect.unit (s := S1) ![0] S1.size inb_S1_S1_0) numel1_S1
  let v6 : BitVec 1 := Scalar.cmpi .slt arg0 v5
  let v7 : Index := Scalar.indexCast arg0
  let v8 : BitVec 32 := pf.at 0 (Rect.unit (s := S64) ![v7.toNat] S1.size (k0_off1_inb i)) numel1_S1
  let c6_i32_1 : BitVec 32 := 6#32
  let v9 : BitVec 32 := Scalar.select v6 arg1 c6_i32_1
  let c0_i32 : BitVec 32 := 0#32
  let c0_i32_2 : BitVec 32 := 0#32
  ![v3.toNat, v9.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S64 : Shape := ⟨1, ![64]⟩
abbrev S1 : Shape := ⟨1, ![1]⟩
abbrev S32768x2048 : Shape := ⟨2, ![32768, 2048]⟩
abbrev S1x2048 : Shape := ⟨2, ![1, 2048]⟩
abbrev S1x2048x7168 : Shape := ⟨3, ![1, 2048, 7168]⟩
abbrev S1x7168x2048 : Shape := ⟨3, ![1, 7168, 2048]⟩
abbrev S_ : Shape := ⟨0, ![]⟩
abbrev S32768 : Shape := ⟨1, ![32768]⟩
abbrev S32768x1 : Shape := ⟨2, ![32768, 1]⟩
abbrev S2048x7168 : Shape := ⟨2, ![2048, 7168]⟩
abbrev S32768x7168 : Shape := ⟨2, ![32768, 7168]⟩
abbrev S7168x2048 : Shape := ⟨2, ![7168, 2048]⟩

abbrev nBuf : Space → Nat
  | .hbm => 41
  | .vmem => 0
  | .smem => 0
  | _ => 0

abbrev bufTy : (tb : Table) → Fin (tcTables nBuf tb) → BufTy
  | .hbm, ⟨0, _⟩ => ⟨S64, .i32⟩
  | .hbm, ⟨1, _⟩ => ⟨S1, .i32⟩
  | .hbm, ⟨2, _⟩ => ⟨S32768x2048, .f32⟩
  | .hbm, ⟨3, _⟩ => ⟨S1x2048, .f32⟩
  | .hbm, ⟨4, _⟩ => ⟨S1x2048x7168, .bf16⟩
  | .hbm, ⟨5, _⟩ => ⟨S1x2048x7168, .bf16⟩
  | .hbm, ⟨6, _⟩ => ⟨S1x7168x2048, .bf16⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .bf16⟩
  | .hbm, ⟨23, _⟩ => ⟨S2048x7168, .bf16⟩
  | .hbm, ⟨24, _⟩ => ⟨S32768x7168, .f32⟩
  | .hbm, ⟨25, _⟩ => ⟨S2048x7168, .bf16⟩
  | .hbm, ⟨26, _⟩ => ⟨S32768x7168, .f32⟩
  | .hbm, ⟨27, _⟩ => ⟨S32768x7168, .f32⟩
  | .hbm, ⟨28, _⟩ => ⟨S32768x7168, .f32⟩
  | .hbm, ⟨29, _⟩ => ⟨S_, .f32⟩
  | .hbm, ⟨30, _⟩ => ⟨S32768x7168, .f32⟩
  | .hbm, ⟨31, _⟩ => ⟨S32768x7168, .f32⟩
  | .hbm, ⟨32, _⟩ => ⟨S_, .f32⟩
  | .hbm, ⟨33, _⟩ => ⟨S32768x7168, .f32⟩
  | .hbm, ⟨34, _⟩ => ⟨S32768x7168, .f32⟩
  | .hbm, ⟨35, _⟩ => ⟨S32768x7168, .f32⟩
  | .hbm, ⟨36, _⟩ => ⟨S32768x7168, .f32⟩
  | .hbm, ⟨37, _⟩ => ⟨S32768x7168, .bf16⟩
  | .hbm, ⟨38, _⟩ => ⟨S7168x2048, .bf16⟩
  | .hbm, ⟨39, _⟩ => ⟨S32768x2048, .f32⟩
  | .hbm, ⟨40, _⟩ => ⟨S32768x2048, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Kernel3.lean ====
abbrev S140 : Shape := ⟨1, ![140]⟩
abbrev S1 : Shape := ⟨1, ![1]⟩
abbrev S71680x2048 : Shape := ⟨2, ![71680, 2048]⟩
abbrev S1x2048 : Shape := ⟨2, ![1, 2048]⟩
abbrev S8x2048x7168 : Shape := ⟨3, ![8, 2048, 7168]⟩
abbrev S8x7168x2048 : Shape := ⟨3, ![8, 7168, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 6
  | .vmem => 12
  | .smem => 2
  | _ => 0

abbrev bufTy : (tb : Table) → Fin (tcTables nBuf tb) → BufTy
  | .hbm, ⟨0, _⟩ => ⟨S71680x2048, .f32⟩
  | .hbm, ⟨1, _⟩ => ⟨S1x2048, .f32⟩
  | .hbm, ⟨2, _⟩ => ⟨S8x2048x7168, .bf16⟩
  | .hbm, ⟨3, _⟩ => ⟨S8x2048x7168, .bf16⟩
  | .hbm, ⟨4, _⟩ => ⟨S8x7168x2048, .bf16⟩
  | .hbm, ⟨5, _⟩ => ⟨S71680x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .smem, ⟨0, _⟩ => ⟨S140, .i32⟩
  | .local _ .smem, ⟨1, _⟩ => ⟨S1, .i32⟩
  | _, _ => ⟨S71680x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![140, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_cond3 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S140.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S140) ![v2.toNat] S1.size (k0_off1_inb i)) numel1_S1
  let c6_i32 : BitVec 32 := 6#32
  let v4 : BitVec 32 := Scalar.select v1 arg1 c6_i32
  let c0_0 : Index := 0#32
  let v5 : BitVec 32 := pf.at 1 (Rect.unit (s := S1) ![0] S1.size inb_S1_S1_0) numel1_S1
  let v6 : BitVec 1 := Scalar.cmpi .slt arg0 v5
  let v7 : Index := Scalar.indexCast arg0
  let v8 : BitVec 32 := pf.at 0 (Rect.unit (s := S140) ![v7.toNat] S1.size (k0_off1_inb i)) numel1_S1
  let c6_i32_1 : BitVec 32 := 6#32
  let v9 : BitVec 32 := Scalar.select v6 arg1 c6_i32_1
  let c0_i32 : BitVec 32 := 0#32
  let c0_i32_2 : BitVec 32 := 0#32
  ![v3.toNat, c0_i32.toNat, v9.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S140.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S140) ![v2.toNat] S1.size (k0_off1_inb i)) numel1_S1
  let c6_i32 : BitVec 32 := 6#32
  let v4 : BitVec 32 := Scalar.select v1 arg1 c6_i32
  let c0_0 : Index := 0#32
  let v5 : BitVec 32 := pf.at 1 (Rect.unit (s := S1) ![0] S1.size inb_S1_S1_0) numel1_S1
  let v6 : BitVec 1 := Scalar.cmpi .slt arg0 v5
  let v7 : Index := Scalar.indexCast arg0
  let v8 : BitVec 32 := pf.at 0 (Rect.unit (s := S140) ![v7.toNat] S1.size (k0_off1_inb i)) numel1_S1
  let c6_i32_1 : BitVec 32 := 6#32
  let v9 : BitVec 32 := Scalar.select v6 arg1 c6_i32_1
  let c0_i32 : BitVec 32 := 0#32
  let c0_i32_2 : BitVec 32 := 0#32
  ![v3.toNat, c0_i32.toNat, v9.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S140.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S140) ![v2.toNat] S1.size (k0_off1_inb i)) numel1_S1
  let c6_i32 : BitVec 32 := 6#32
  let v4 : BitVec 32 := Scalar.select v1 arg1 c6_i32
  let c0_0 : Index := 0#32
  let v5 : BitVec 32 := pf.at 1 (Rect.unit (s := S1) ![0] S1.size inb_S1_S1_0) numel1_S1
  let v6 : BitVec 1 := Scalar.cmpi .slt arg0 v5
  let v7 : Index := Scalar.indexCast arg0
  let v8 : BitVec 32 := pf.at 0 (Rect.unit (s := S140) ![v7.toNat] S1.size (k0_off1_inb i)) numel1_S1
  let c6_i32_1 : BitVec 32 := 6#32
  let v9 : BitVec 32 := Scalar.select v6 arg1 c6_i32_1
  let c0_i32 : BitVec 32 := 0#32
  let c0_i32_2 : BitVec 32 := 0#32
  ![v3.toNat, v9.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S140 : Shape := ⟨1, ![140]⟩
abbrev S1 : Shape := ⟨1, ![1]⟩
abbrev S71680x2048 : Shape := ⟨2, ![71680, 2048]⟩
abbrev S1x2048 : Shape := ⟨2, ![1, 2048]⟩
abbrev S8x2048x7168 : Shape := ⟨3, ![8, 2048, 7168]⟩
abbrev S8x7168x2048 : Shape := ⟨3, ![8, 7168, 2048]⟩
abbrev S71680x8x7168 : Shape := ⟨3, ![71680, 8, 7168]⟩
abbrev S_ : Shape := ⟨0, ![]⟩
abbrev S8x71680x2048 : Shape := ⟨3, ![8, 71680, 2048]⟩
abbrev S140x512 : Shape := ⟨2, ![140, 512]⟩
abbrev S71680 : Shape := ⟨1, ![71680]⟩
abbrev S1x71680 : Shape := ⟨2, ![1, 71680]⟩
abbrev S8 : Shape := ⟨1, ![8]⟩
abbrev S8x1 : Shape := ⟨2, ![8, 1]⟩
abbrev S8x71680 : Shape := ⟨2, ![8, 71680]⟩
abbrev S8x71680x1 : Shape := ⟨3, ![8, 71680, 1]⟩

abbrev nBuf : Space → Nat
  | .hbm => 47
  | .vmem => 0
  | .smem => 0
  | _ => 0

abbrev bufTy : (tb : Table) → Fin (tcTables nBuf tb) → BufTy
  | .hbm, ⟨0, _⟩ => ⟨S140, .i32⟩
  | .hbm, ⟨1, _⟩ => ⟨S1, .i32⟩
  | .hbm, ⟨2, _⟩ => ⟨S71680x2048, .f32⟩
  | .hbm, ⟨3, _⟩ => ⟨S1x2048, .f32⟩
  | .hbm, ⟨4, _⟩ => ⟨S8x2048x7168, .bf16⟩
  | .hbm, ⟨5, _⟩ => ⟨S8x2048x7168, .bf16⟩
  | .hbm, ⟨6, _⟩ => ⟨S8x7168x2048, .bf16⟩
  | .hbm, ⟨7, _⟩ => ⟨S71680x2048, .bf16⟩
  | .hbm, ⟨8, _⟩ => ⟨S71680x8x7168, .f32⟩
  | .hbm, ⟨9, _⟩ => ⟨S71680x8x7168, .f32⟩
  | .hbm, ⟨10, _⟩ => ⟨S71680x8x7168, .f32⟩
  | .hbm, ⟨11, _⟩ => ⟨S71680x8x7168, .f32⟩
  | .hbm, ⟨12, _⟩ => ⟨S_, .f32⟩
  | .hbm, ⟨13, _⟩ => ⟨S71680x8x7168, .f32⟩
  | .hbm, ⟨14, _⟩ => ⟨S71680x8x7168, .f32⟩
  | .hbm, ⟨15, _⟩ => ⟨S_, .f32⟩
  | .hbm, ⟨16, _⟩ => ⟨S71680x8x7168, .f32⟩
  | .hbm, ⟨17, _⟩ => ⟨S71680x8x7168, .f32⟩
  | .hbm, ⟨18, _⟩ => ⟨S71680x8x7168, .f32⟩
  | .hbm, ⟨19, _⟩ => ⟨S71680x8x7168, .f32⟩
  | .hbm, ⟨20, _⟩ => ⟨S71680x8x7168, .bf16⟩
  | .hbm, ⟨21, _⟩ => ⟨S8x71680x2048, .f32⟩
  | .hbm, ⟨22, _⟩ => ⟨S140x512, .i32⟩
  | .hbm, ⟨23, _⟩ => ⟨S71680, .i32⟩
  | .hbm, ⟨24, _⟩ => ⟨S1x71680, .i32⟩
  | .hbm, ⟨25, _⟩ => ⟨S8, .i32⟩
  | .hbm, ⟨26, _⟩ => ⟨S8x1, .i32⟩
  | .hbm, ⟨27, _⟩ => ⟨S8x71680, .i32⟩
  | .hbm, ⟨28, _⟩ => ⟨S8x71680, .i32⟩
  | .hbm, ⟨29, _⟩ => ⟨S8x71680, .i1⟩
  | .hbm, ⟨30, _⟩ => ⟨S140, .i32⟩
  | .hbm, ⟨31, _⟩ => ⟨S_, .i32⟩
  | .hbm, ⟨32, _⟩ => ⟨S140, .i32⟩
  | .hbm, ⟨33, _⟩ => ⟨S140, .i1⟩
  | .hbm, ⟨34, _⟩ => ⟨S140x512, .i1⟩
  | .hbm, ⟨35, _⟩ => ⟨S71680, .i1⟩
  | .hbm, ⟨36, _⟩ => ⟨S1x71680, .i1⟩
  | .hbm, ⟨37, _⟩ => ⟨S8x71680, .i1⟩
  | .hbm, ⟨38, _⟩ => ⟨S8x71680, .i1⟩
  | .hbm, ⟨39, _⟩ => ⟨S8x71680x1, .i1⟩
  | .hbm, ⟨40, _⟩ => ⟨S_, .f32⟩
  | .hbm, ⟨41, _⟩ => ⟨S_, .f32⟩
  | .hbm, ⟨42, _⟩ => ⟨S8x71680x2048, .i1⟩
  | .hbm, ⟨43, _⟩ => ⟨S8x71680x2048, .f32⟩
  | .hbm, ⟨44, _⟩ => ⟨S8x71680x2048, .f32⟩
  | .hbm, ⟨45, _⟩ => ⟨S_, .f32⟩
  | .hbm, ⟨46, _⟩ => ⟨S71680x2048, .f32⟩
  | _, _ => ⟨S140, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Proof.Tile.lean ====
module

public import proofs.«01_k».proof.Proof.Gen.KernelIdeal.Flash.Runs

@[expose] public section

set_option maxRecDepth 16384

noncomputable section

namespace Cert.Attn

open Cert.KernelIdeal Cert.KernelIdeal.Gen
open Idealize.ShloMosaic
open Idealize.ShloMosaic.TcCoe Idealize.ShloMosaic.Tactic

/-- The rectangle of one head in a scratch: all rows and lanes of slab `h`. -/
abbrev slab (h : ℕ) (hh : h < 16) : Rect S16x512x128 :=
  Rect.unit ![h, 0, 0] S1x512x128.size (by
    intro a
    fin_cases a
    · show h + 1 ≤ 16
      omega
    · exact le_rfl
    · exact le_rfl)

/-- The scores of one head: queries against keys, the keys being the head's own part beside the shared part. -/
def score (q : Vec Ideal S1x1x512x256 .bf16) (kn : Vec Ideal S1x1x512x128 .bf16) (kp : Vec Ideal S1x512x128 .bf16) : FVec Ideal S512x512 .f32 :=
  matmul dot_S512x256_S512x256_S512x512_1_1_0_0_n_n none (shapeCast S512x256 q shapeCasts_S1x1x512x256_S512x256 : FVec Ideal S512x256 .bf16)
    (concatenate S512x256 1 [⟨S512x128, (shapeCast S512x128 kn shapeCasts_S1x1x512x128_S512x128 : FVec Ideal S512x128 .bf16)⟩,
      ⟨S512x128, (shapeCast S512x128 kp shapeCasts_S1x512x128_S512x128 : FVec Ideal S512x128 .bf16)⟩] concatenates_S512x128_S512x128_S512x256_d1 : FVec Ideal S512x256 .bf16)
    (constant S512x512 .f32 0x00000000#32)

/-- The running maximum after a block with scores `s`. -/
def newM (s : FVec Ideal S512x512 .f32) (m : Vec Ideal S1x512x128 .f32) : FVec Ideal S512x128 .f32 :=
  maximumf (shapeCast S512x128 m shapeCasts_S1x512x128_S512x128 : FVec Ideal S512x128 .f32)
    (broadcastTo S512x128 (shapeCast S512x1 (multiReduction .maximumf [1] S512 s 0xFF800000#32 reduces_S512x512_S512 (.inl rfl) rfl)
      shapeCasts_S512_S512x1) broadcasts_S512x1_S512x128)

/-- The factor that carries the old sums over to the new maximum. -/
def carry (s : FVec Ideal S512x512 .f32) (m : Vec Ideal S1x512x128 .f32) : FVec Ideal S512x128 .f32 :=
  exp2 (subf (shapeCast S512x128 m shapeCasts_S1x512x128_S512x128 : FVec Ideal S512x128 .f32) (newM s m))

/-- The block's weights against the values beside a block of ones. -/
def weigh (s : FVec Ideal S512x512 .f32) (m : Vec Ideal S1x512x128 .f32) (v : Vec Ideal S1x1x512x128 .bf16) : FVec Ideal S512x256 .f32 :=
  matmul dot_S512x512_S512x256_S512x256_1_0_0_1_n_n none
    (truncf .bf16 (exp2 (subf s (concatenate S512x512 1 [⟨S512x128, newM s m⟩, ⟨S512x128, newM s m⟩, ⟨S512x128, newM s m⟩, ⟨S512x128, newM s m⟩]
      concatenates_S512x128_S512x128_S512x128_S512x128_S512x512_d1))) bitsLt_bf16_f32)
    (concatenate S512x256 1 [⟨S512x128, (shapeCast S512x128 v shapeCasts_S1x1x512x128_S512x128 : FVec Ideal S512x128 .bf16)⟩,
      ⟨S512x128, (broadcast S512x128 (Scalar.ofBits .bf16 0x3F80#16) : FVec Ideal S512x128 .bf16)⟩] concatenates_S512x128_S512x128_S512x256_d1 : FVec Ideal S512x256 .bf16)
    (constant S512x256 .f32 0x00000000#32)

/-- The new running maximum as it is stored. -/
def stM (s : FVec Ideal S512x512 .f32) (m : Vec Ideal S1x512x128 .f32) : FVec Ideal S1x512x128 .f32 :=
  shapeCast S1x512x128 (newM s m) shapeCasts_S512x128_S1x512x128

/-- The new sum of the weights as it is stored. -/
def stL (s : FVec Ideal S512x512 .f32) (v : Vec Ideal S1x1x512x128 .bf16) (m l : Vec Ideal S1x512x128 .f32) : FVec Ideal S1x512x128 .f32 :=
  shapeCast S1x512x128 (addf (mulf (carry s m) (shapeCast S512x128 l shapeCasts_S1x512x128_S512x128 : FVec Ideal S512x128 .f32))
    (extractStridedSlice S512x128 ![0, 128] (weigh s m v) slices_S512x256_o0_128_S512x128)) shapeCasts_S512x128_S1x512x128

/-- The new weighted sum of the values as it is stored. -/
def stA (s : FVec Ideal S512x512 .f32) (v : Vec Ideal S1x1x512x128 .bf16) (m a : Vec Ideal S1x512x128 .f32) : FVec Ideal S1x512x128 .f32 :=
  shapeCast S1x512x128 (addf (mulf (carry s m) (shapeCast S512x128 a shapeCasts_S1x512x128_S512x128 : FVec Ideal S512x128 .f32))
    (extractStridedSlice S512x128 ![0, 0] (weigh s m v) slices_S512x256_o0_0_S512x128)) shapeCasts_S512x128_S1x512x128

/-- Writes of the first `n` heads, the last first, upon `base`. -/
def slabs (base : List (View.Piece (Elt Ideal) S16x512x128 .f32)) (f : (h : ℕ) → h < 16 → FVec Ideal S1x512x128 .f32) :
    (n : ℕ) → n ≤ 16 → List (View.Piece (Elt Ideal) S16x512x128 .f32)
  | 0, _ => base
  | n + 1, hn => ⟨slab n hn, f n hn⟩ :: slabs base f n (Nat.le_of_succ_le hn)

/-- The scores of a diagonal block: those beyond the query's chunk replaced by the mask. -/
def hide (s : FVec Ideal S512x512 .f32) : FVec Ideal S512x512 .f32 :=
  select kernelRun0_C.sl.r_2 s (broadcast S512x512 (Named.named (F := Ideal) κ "mask" 0xF149F2CA#32))

/-- Writes of the first `n` heads' running maxima upon a wiped scratch. -/
def wipedM (s : (h : ℕ) → h < 16 → FVec Ideal S512x512 .f32) : (n : ℕ) → n ≤ 16 → List (View.Piece (Elt Ideal) S16x512x128 .f32)
  | 0, _ => [⟨Rect.unit ![0, 0, 0] S16x512x128.size inb_S16x512x128_S16x512x128_0_0_0, k0_pay4 (F := Ideal)⟩]
  | n + 1, hn => ⟨slab n hn, stM (s n hn) (scM0_0.view.readCov (wipedM s n (Nat.le_of_succ_le hn)) (slab n hn).toLoadRect)⟩
      :: wipedM s n (Nat.le_of_succ_le hn)

/-- Writes of the first `n` heads' sums of weights upon a wiped scratch. -/
def wipedL (s : (h : ℕ) → h < 16 → FVec Ideal S512x512 .f32) (v : (h : ℕ) → h < 16 → Vec Ideal S1x1x512x128 .bf16) :
    (n : ℕ) → n ≤ 16 → List (View.Piece (Elt Ideal) S16x512x128 .f32)
  | 0, _ => [⟨Rect.unit ![0, 0, 0] S16x512x128.size inb_S16x512x128_S16x512x128_0_0_0, k0_pay5 (F := Ideal)⟩]
  | n + 1, hn => ⟨slab n hn, stL (s n hn) (v n hn) (scM0_0.view.readCov (wipedM s n (Nat.le_of_succ_le hn)) (slab n hn).toLoadRect)
        (scM0_1.view.readCov (wipedL s v n (Nat.le_of_succ_le hn)) (slab n hn).toLoadRect)⟩
      :: wipedL s v n (Nat.le_of_succ_le hn)

/-- Writes of the first `n` heads' weighted sums upon a wiped scratch. -/
def wipedA (s : (h : ℕ) → h < 16 → FVec Ideal S512x512 .f32) (v : (h : ℕ) → h < 16 → Vec Ideal S1x1x512x128 .bf16) :
    (n : ℕ) → n ≤ 16 → List (View.Piece (Elt Ideal) S16x512x128 .f32)
  | 0, _ => [⟨Rect.unit ![0, 0, 0] S16x512x128.size inb_S16x512x128_S16x512x128_0_0_0, k0_pay6 (F := Ideal)⟩]
  | n + 1, hn => ⟨slab n hn, stA (s n hn) (v n hn) (scM0_0.view.readCov (wipedM s n (Nat.le_of_succ_le hn)) (slab n hn).toLoadRect)
        (scM0_2.view.readCov (wipedA s v n (Nat.le_of_succ_le hn)) (slab n hn).toLoadRect)⟩
      :: wipedA s v n (Nat.le_of_succ_le hn)

/-- The rectangle of one head in the output's block: its 128 columns. -/
abbrev cols (h : ℕ) (hh : h < 16) : Rect S1x512x2048 :=
  Rect.unit ![0, 0, h * 128] S1x512x128.size (by
    intro a
    fin_cases a
    · exact le_rfl
    · exact le_rfl
    · show h * 128 + 128 ≤ 2048
      omega)

/-- The quotient of one head as it is stored. -/
def quot (a l : Vec Ideal S1x512x128 .f32) : FVec Ideal S1x512x128 .bf16 :=
  shapeCast S1x512x128 (truncf .bf16 (divf (shapeCast S512x128 a shapeCasts_S1x512x128_S512x128 : FVec Ideal S512x128 .f32)
    (shapeCast S512x128 l shapeCasts_S1x512x128_S512x128 : FVec Ideal S512x128 .f32)) bitsLt_bf16_f32) shapeCasts_S512x128_S1x512x128

/-- Writes of the first `n` heads' columns in the output's block, from what the scratches hold after the lists `A` and `L`. -/
def outs (A L : List (View.Piece (Elt Ideal) S16x512x128 .f32)) : (n : ℕ) → n ≤ 16 → List (View.Piece (Elt Ideal) S1x512x2048 .bf16)
  | 0, _ => []
  | n + 1, hn => ⟨cols n hn, quot (scM0_2.view.readCov A (slab n hn).toLoadRect) (scM0_1.view.readCov L (slab n hn).toLoadRect)⟩
      :: outs A L n (Nat.le_of_succ_le hn)

section
variable (c : Dev nD)
  (arg4 : Memref sig .tc .vmem S16x1x512x256 .bf16) (arg5 : Memref sig .tc .vmem S16x1x512x128 .bf16)
  (arg6 : Memref sig .tc .vmem S1x512x128 .bf16) (arg7 : Memref sig .tc .vmem S16x1x512x128 .bf16)
  (x0 : S16x1x512x256.Idx → Elt Ideal .bf16) (x1 : S16x1x512x128.Idx → Elt Ideal .bf16)
  (x2 : S1x512x128.Idx → Elt Ideal .bf16) (x3 : S16x1x512x128.Idx → Elt Ideal .bf16)

/-- One head of the queries' block. -/
abbrev rdQ (h : ℕ) (hh : h < 16) : Vec Ideal S1x1x512x256 .bf16 :=
  View.readAt (Elt Ideal) arg4.view (Rect.unit (s := S16x1x512x256) ![h, 0, 0, 0] S1x1x512x256.size (by
    intro a
    fin_cases a
    · show h + 1 ≤ 16
      omega
    · exact le_rfl
    · exact le_rfl
    · exact le_rfl)).toLoadRect (arg4.view.rep x0)

/-- One head of a block of 128 lanes (the keys' own part, or the values). -/
abbrev rdH (h : ℕ) (hh : h < 16) : Vec Ideal S1x1x512x128 .bf16 :=
  View.readAt (Elt Ideal) arg5.view (Rect.unit (s := S16x1x512x128) ![h, 0, 0, 0] S1x1x512x128.size (by
    intro a
    fin_cases a
    · show h + 1 ≤ 16
      omega
    · exact le_rfl
    · exact le_rfl
    · exact le_rfl)).toLoadRect (arg5.view.rep x1)

/-- The shared part of the keys. -/
abbrev rdP : Vec Ideal S1x512x128 .bf16 :=
  View.readAt (Elt Ideal) arg6.view (Rect.unit (s := S1x512x128) ![0, 0, 0] S1x512x128.size inb_S1x512x128_S1x512x128_0_0_0).toLoadRect (arg6.view.rep x2)

/-- One head of a scratch. -/
abbrev rdS (v : View sig .tc .vmem S16x512x128 .f32) (xa : v.ty.Contents (Elt Ideal)) (h : ℕ) (hh : h < 16) :
    Vec Ideal S1x512x128 .f32 := View.readAt (Elt Ideal) v (slab h hh).toLoadRect xa

/-- The scores of head `h`. -/
abbrev sc (h : ℕ) (hh : h < 16) : FVec Ideal S512x512 .f32 := score (rdQ arg4 x0 h hh) (rdH arg5 x1 h hh) (rdP arg6 x2)

/-- Path D: the running maxima it writes. -/
theorem D_m (xa0 : Buf (Elt Ideal) ((c : Thread nD τ).loc cc0_scratch0)) :
    kernelRun0_D.sl.HS0_16 c arg4 arg5 arg6 x0 x1 x2 xa0
      = slabs [] (fun h hh => stM (sc arg4 arg5 arg6 x0 x1 x2 h hh) (rdS scM0_0.view xa0 h hh)) 16 le_rfl := rfl

/-- Path D: the sums of weights it writes. -/
theorem D_l (xa0 : Buf (Elt Ideal) ((c : Thread nD τ).loc cc0_scratch0)) (xa1 : Buf (Elt Ideal) ((c : Thread nD τ).loc cc0_scratch1)) :
    kernelRun0_D.sl.HS1_16 c arg4 arg5 arg6 arg7 x0 x1 x2 x3 xa0 xa1
      = slabs [] (fun h hh => stL (sc arg4 arg5 arg6 x0 x1 x2 h hh) (rdH arg7 x3 h hh) (rdS scM0_0.view xa0 h hh) (rdS scM0_1.view xa1 h hh)) 16 le_rfl := rfl

/-- Path D: the weighted sums it writes. -/
theorem D_a (xa0 : Buf (Elt Ideal) ((c : Thread nD τ).loc cc0_scratch0)) (xa2 : Buf (Elt Ideal) ((c : Thread nD τ).loc cc0_scratch2)) :
    kernelRun0_D.sl.HS2_16 c arg4 arg5 arg6 arg7 x0 x1 x2 x3 xa0 xa2
      = slabs [] (fun h hh => stA (sc arg4 arg5 arg6 x0 x1 x2 h hh) (rdH arg7 x3 h hh) (rdS scM0_0.view xa0 h hh) (rdS scM0_2.view xa2 h hh)) 16 le_rfl := rfl

/-- Path C: the running maxima it writes. -/
theorem C_m (xa0 : Buf (Elt Ideal) ((c : Thread nD τ).loc cc0_scratch0)) :
    kernelRun0_C.sl.HS0_16 c arg4 arg5 arg6 x0 x1 x2 xa0
      = slabs [] (fun h hh => stM (hide (sc arg4 arg5 arg6 x0 x1 x2 h hh)) (rdS scM0_0.view xa0 h hh)) 16 le_rfl := rfl

/-- Path C: the sums of weights it writes. -/
theorem C_l (xa0 : Buf (Elt Ideal) ((c : Thread nD τ).loc cc0_scratch0)) (xa1 : Buf (Elt Ideal) ((c : Thread nD τ).loc cc0_scratch1)) :
    kernelRun0_C.sl.HS1_16 c arg4 arg5 arg6 arg7 x0 x1 x2 x3 xa0 xa1
      = slabs [] (fun h hh => stL (hide (sc arg4 arg5 arg6 x0 x1 x2 h hh)) (rdH arg7 x3 h hh) (rdS scM0_0.view xa0 h hh) (rdS scM0_1.view xa1 h hh)) 16 le_rfl := rfl

/-- Path C: the weighted sums it writes. -/
theorem C_a (xa0 : Buf (Elt Ideal) ((c : Thread nD τ).loc cc0_scratch0)) (xa2 : Buf (Elt Ideal) ((c : Thread nD τ).loc cc0_scratch2)) :
    kernelRun0_C.sl.HS2_16 c arg4 arg5 arg6 arg7 x0 x1 x2 x3 xa0 xa2
      = slabs [] (fun h hh => stA (hide (sc arg4 arg5 arg6 x0 x1 x2 h hh)) (rdH arg7 x3 h hh) (rdS scM0_0.view xa0 h hh) (rdS scM0_2.view xa2 h hh)) 16 le_rfl := rfl

/-- Path B: the running maxima it writes. -/
theorem B_m : kernelRun0_B.sl.HS0_17 arg4 arg5 arg6 x0 x1 x2 = wipedM (sc arg4 arg5 arg6 x0 x1 x2) 16 le_rfl := rfl

/-- Path B: the sums of weights it writes. -/
theorem B_l : kernelRun0_B.sl.HS1_17 arg4 arg5 arg6 arg7 x0 x1 x2 x3 = wipedL (sc arg4 arg5 arg6 x0 x1 x2) (rdH arg7 x3) 16 le_rfl := rfl

/-- Path B: the weighted sums it writes. -/
theorem B_a : kernelRun0_B.sl.HS2_17 arg4 arg5 arg6 arg7 x0 x1 x2 x3 = wipedA (sc arg4 arg5 arg6 x0 x1 x2) (rdH arg7 x3) 16 le_rfl := rfl

/-- Path A: the running maxima it writes. -/
theorem A_m : kernelRun0_A.sl.HS0_17 arg4 arg5 arg6 x0 x1 x2 = wipedM (fun h hh => hide (sc arg4 arg5 arg6 x0 x1 x2 h hh)) 16 le_rfl := rfl

/-- Path A: the sums of weights it writes. -/
theorem A_l : kernelRun0_A.sl.HS1_17 arg4 arg5 arg6 arg7 x0 x1 x2 x3 = wipedL (fun h hh => hide (sc arg4 arg5 arg6 x0 x1 x2 h hh)) (rdH arg7 x3) 16 le_rfl := rfl

/-- Path A: the weighted sums it writes. -/
theorem A_a : kernelRun0_A.sl.HS2_17 arg4 arg5 arg6 arg7 x0 x1 x2 x3 = wipedA (fun h hh => hide (sc arg4 arg5 arg6 x0 x1 x2 h hh)) (rdH arg7 x3) 16 le_rfl := rfl

/-- Path C: the output's block it writes. -/
theorem C_out (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) :
    kernelRun0_C.sl.HO7_16 c arg4 arg5 arg6 arg7 x0 x1 x2 x3 xa0 xa1 xa2
      = outs (kernelRun0_C.sl.HS2_16 c arg4 arg5 arg6 arg7 x0 x1 x2 x3 xa0 xa2)
          (kernelRun0_C.sl.HS1_16 c arg4 arg5 arg6 arg7 x0 x1 x2 x3 xa0 xa1) 16 le_rfl := rfl

/-- Path A: the output's block it writes. -/
theorem A_out :
    kernelRun0_A.sl.HO7_16 arg4 arg5 arg6 arg7 x0 x1 x2 x3
      = outs (kernelRun0_A.sl.HS2_17 arg4 arg5 arg6 arg7 x0 x1 x2 x3)
          (kernelRun0_A.sl.HS1_17 arg4 arg5 arg6 arg7 x0 x1 x2 x3) 16 le_rfl := rfl

end

end Cert.Attn
-- ==== Proof.Point.lean ====
module

public import proofs.«01_k».proof.Proof.Tile
public import Idealize.ShloMosaic.Lib.Pointwise

@[expose] public section

set_option maxRecDepth 16384

noncomputable section

namespace Cert.Attn

open Cert.KernelIdeal Cert.KernelIdeal.Gen
open Idealize.ShloMosaic
open Idealize.ShloMosaic.TcCoe Idealize.ShloMosaic.Tactic

/-- A head's score of row `r` against key `k`: the queries' first half against the head's own keys, their second half against the shared part. -/
theorem score_at (q : Vec Ideal S1x1x512x256 .bf16) (kn : Vec Ideal S1x1x512x128 .bf16) (kp : Vec Ideal S1x512x128 .bf16) (r k : Fin 512) :
    score q kn kp (ix2 r k) = (∑ x : Fin 128, q (ix4 0 0 r ⟨x.val, by omega⟩) * kn (ix4 0 0 k x))
      + ∑ x : Fin 128, q (ix4 0 0 r ⟨128 + x.val, by omega⟩) * kp (ix3 0 k x) := by
  pointwise [score]

/-- The last value below every other. -/
theorem bottom : Ideal.ofBits .f32 0xFF800000#32 = ⊥ := by
  simp [Ideal.ofBits, Ideal.ieee]

/-- The mask's value is the least. -/
theorem masked : (Named.named (F := Ideal) κ "mask" 0xF149F2CA#32 : Ideal .f32) = ⊥ := by
  rfl

/-- The running maximum at a row, on every lane. -/
theorem newM_at (s : FVec Ideal S512x512 .f32) (m : Vec Ideal S1x512x128 .f32) (r : Fin 512) (j : Fin 128) :
    newM s m (ix2 r j) = max (m (ix3 0 r j)) (Finset.univ.fold max ⊥ fun x : Fin 512 => s (ix2 r x)) := by
  pointwise [newM]
  rw [bottom]

/-- The factor at a row. -/
theorem carry_at (s : FVec Ideal S512x512 .f32) (m : Vec Ideal S1x512x128 .f32) (r : Fin 512) (j : Fin 128) :
    carry s m (ix2 r j) = Ideal.exp2 (m (ix3 0 r j) - newM s m (ix2 r j)) := by
  pointwise [carry]
  rfl

/-- The weighted sum at a row whose running maximum is the same on every lane. -/
theorem weigh_at (s : FVec Ideal S512x512 .f32) (m : Vec Ideal S1x512x128 .f32) (v : Vec Ideal S1x1x512x128 .bf16) (r : Fin 512) (j : Fin 256)
    (μ : EReal) (hμ : ∀ j : Fin 128, newM s m (ix2 r j) = μ) :
    weigh s m v (ix2 r j) = ∑ x : Fin 512, Ideal.exp2 (s (ix2 r x) - μ) * (if h : j.val < 128 then v (ix4 0 0 x ⟨j.val, h⟩) else 1) := by
  pointwise [weigh]
  refine Finset.sum_congr rfl fun x _ => ?_
  simp only [hμ, dite_eq_ite, ite_self]
  rfl

/-- The running maximum as stored. -/
theorem stM_at (s : FVec Ideal S512x512 .f32) (m : Vec Ideal S1x512x128 .f32) (r : Fin 512) (j : Fin 128) :
    stM s m (ix3 0 r j) = newM s m (ix2 r j) := by
  pointwise [stM]

/-- The sum of the weights as stored. -/
theorem stL_at (s : FVec Ideal S512x512 .f32) (v : Vec Ideal S1x1x512x128 .bf16) (m l : Vec Ideal S1x512x128 .f32) (r : Fin 512) (j : Fin 128) :
    stL s v m l (ix3 0 r j) = carry s m (ix2 r j) * l (ix3 0 r j) + weigh s m v (ix2 r ⟨128 + j.val, by omega⟩) := by
  pointwise [stL]

/-- The weighted sum as stored. -/
theorem stA_at (s : FVec Ideal S512x512 .f32) (v : Vec Ideal S1x1x512x128 .bf16) (m a : Vec Ideal S1x512x128 .f32) (r : Fin 512) (j : Fin 128) :
    stA s v m a (ix3 0 r j) = carry s m (ix2 r j) * a (ix3 0 r j) + weigh s m v (ix2 r ⟨j.val, by omega⟩) := by
  pointwise [stA]

/-- The quotient as stored. -/
theorem quot_at (a l : Vec Ideal S1x512x128 .f32) (r : Fin 512) (j : Fin 128) :
    quot a l (ix3 0 r j) = Ideal.div (a (ix3 0 r j)) (l (ix3 0 r j)) := by
  pointwise [quot]

/-- The chunk of a position, rounded down as the kernel does it. -/
def chunkOf (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        1#32)
      (IntOp.cmpi CmpIPredicate.ne (IntOp.remsi ArithUnit.vector x 64#32) 0#32))
    (IntOp.subi (IntOp.divsi ArithUnit.vector x 64#32) 1#32)
    (IntOp.divsi ArithUnit.vector x 64#32)

/-- It is the quotient by 64. -/
theorem chunkOf_eq : ∀ k : Fin 512, chunkOf (BitVec.ofNat 32 k.val) = BitVec.ofNat 32 (k.val / 64) := by
  decide +kernel

/-- Comparing two chunk numbers. -/
theorem chunk_le : ∀ a b : Fin 8, IntOp.cmpi CmpIPredicate.sle (BitVec.ofNat 32 a.val) (BitVec.ofNat 32 b.val)
    = if a.val ≤ b.val then 1#1 else 0#1 := by
  decide +kernel

/-- Within a diagonal block a key is kept when its chunk is not beyond the query's. -/
theorem hide_at (s : FVec Ideal S512x512 .f32) (r k : Fin 512) :
    hide s (ix2 r k) = if k.val / 64 ≤ r.val / 64 then s (ix2 r k) else ⊥ := by
  have e : hide s (ix2 r k) = Scalar.select (IntOp.cmpi CmpIPredicate.sle (chunkOf (BitVec.ofNat 32 k.val)) (chunkOf (BitVec.ofNat 32 r.val)))
      (s (ix2 r k)) (Named.named (F := Ideal) κ "mask" 0xF149F2CA#32 : Ideal .f32) := by
    pointwise [hide, kernelRun0_C.sl.r_2, kernelRun0_C.sl.v52, kernelRun0_C.sl.v53, kernelRun0_C.sl.v29, kernelRun0_C.sl.v58, kernelRun0_C.sl.v61, kernelRun0_C.sl.v43, k0_pay155, kernelRun0_C.sl.v31, kernelRun0_C.sl.v44, kernelRun0_C.sl.v48, kernelRun0_C.sl.v51, kernelRun0_C.sl.v28, kernelRun0_C.sl.v33, kernelRun0_C.sl.v36, chunkOf]
  rw [e, chunkOf_eq, chunkOf_eq, chunk_le ⟨k.val / 64, by omega⟩ ⟨r.val / 64, by omega⟩, masked]
  simp only [Scalar.select]
  split_ifs <;> simp_all

/-- The running maxima start at the least value. -/
theorem p4 (i : S16x512x128.Idx) : k0_pay4 (F := Ideal) i = ⊥ := by
  pointwise [k0_pay4]
  rw [masked]
/-- The sums of the weights start at zero. -/
theorem p5 (i : S16x512x128.Idx) : k0_pay5 (F := Ideal) i = 0 := by
  pointwise [k0_pay5]
/-- The weighted sums start at zero. -/
theorem p6 (i : S16x512x128.Idx) : k0_pay6 (F := Ideal) i = 0 := by
  pointwise [k0_pay6]

end Cert.Attn
-- ==== Proof.Read.lean ====
module

public import proofs.«01_k».proof.Proof.Point
public import Idealize.ShloMosaic.Lib.Pipeline.ReadBack
public import Idealize.ShloMosaic.Lib.Writes
public import Idealize.ShloMosaic.Lib.VecWindow

@[expose] public section

set_option maxRecDepth 16384

noncomputable section

namespace Cert.Attn

open Cert.KernelIdeal Cert.KernelIdeal.Gen
open Idealize.ShloMosaic
open Idealize.ShloMosaic.TcCoe Idealize.ShloMosaic.Tactic

/-- Two heads' slabs are apart. -/
theorem slab_apart {n k : ℕ} (hn : n < 16) (hk : k < 16) (h : n ≠ k) : LoadRect.disj (slab n hn) (slab k hk).toLoadRect = true := by
  refine decide_eq_true ⟨(0 : Fin 3), ?_⟩
  rcases Nat.lt_or_gt_of_ne h with h | h
  · refine .inr (.inr (.inl ?_))
    show n + 1 * (1 - 1) < k
    omega
  · refine .inr (.inr (.inr ?_))
    show k + 1 * (1 - 1) < n
    omega

section
variable (v : View sig .tc .vmem S16x512x128 .f32)

/-- A head among the first `n` reads back what was written for it. -/
theorem slabs_hit (base : List (View.Piece (Elt Ideal) S16x512x128 .f32)) (f : (h : ℕ) → h < 16 → FVec Ideal S1x512x128 .f32)
    (n : ℕ) (hn : n ≤ 16) (k : ℕ) (hk : k < 16) (h : k < n) : v.readCov (slabs base f n hn) (slab k hk).toLoadRect = f k hk := by
  induction n with
  | zero => omega
  | succ n ih =>
    rw [slabs]
    by_cases e : n = k
    · subst e
      exact View.readCov_cons_toLoadRect v _ _ _
    · rw [View.readCov_skip v _ _ _ _ (slab_apart _ _ e)]
      exact ih _ (by omega)

/-- The wiped maxima: a head not yet reached is at the least value. -/
theorem wipedM_miss (s : (h : ℕ) → h < 16 → FVec Ideal S512x512 .f32) (n : ℕ) (hn : n ≤ 16) (k : ℕ) (hk : k < 16) (h : n ≤ k) :
    v.readCov (wipedM s n hn) (slab k hk).toLoadRect = fun _ => ⊥ := by
  induction n with
  | zero =>
    rw [wipedM]
    refine (View.readCov_fill v (s := S16x512x128) _ _ _ _ fun a => by fin_cases a <;> rfl).trans (funext fun x => ?_)
    exact p4 _
  | succ n ih =>
    rw [wipedM, View.readCov_skip v _ _ _ _ (slab_apart _ _ (by omega))]
    exact ih _ (by omega)

/-- The wiped maxima: a head already reached. -/
theorem wipedM_hit (s : (h : ℕ) → h < 16 → FVec Ideal S512x512 .f32) (n : ℕ) (hn : n ≤ 16) (k : ℕ) (hk : k < 16) (h : k < n) :
    v.readCov (wipedM s n hn) (slab k hk).toLoadRect = stM (s k hk) fun _ => ⊥ := by
  induction n with
  | zero => omega
  | succ n ih =>
    rw [wipedM]
    by_cases e : n = k
    · subst e
      refine (View.readCov_cons_toLoadRect v _ _ _).trans ?_
      rw [wipedM_miss _ s n _ n hk le_rfl]
      rfl
    · rw [View.readCov_skip v _ _ _ _ (slab_apart _ _ e)]
      exact ih _ (by omega)

/-- The wiped sums: a head not yet reached is at zero. -/
theorem wipedL_miss (s : (h : ℕ) → h < 16 → FVec Ideal S512x512 .f32) (w : (h : ℕ) → h < 16 → Vec Ideal S1x1x512x128 .bf16) (n : ℕ) (hn : n ≤ 16) (k : ℕ) (hk : k < 16) (h : n ≤ k) :
    v.readCov (wipedL s w n hn) (slab k hk).toLoadRect = fun _ => 0 := by
  induction n with
  | zero =>
    rw [wipedL]
    refine (View.readCov_fill v (s := S16x512x128) _ _ _ _ fun a => by fin_cases a <;> rfl).trans (funext fun x => ?_)
    exact p5 _
  | succ n ih =>
    rw [wipedL, View.readCov_skip v _ _ _ _ (slab_apart _ _ (by omega))]
    exact ih _ (by omega)

/-- The wiped sums: a head already reached. -/
theorem wipedL_hit (s : (h : ℕ) → h < 16 → FVec Ideal S512x512 .f32) (w : (h : ℕ) → h < 16 → Vec Ideal S1x1x512x128 .bf16) (n : ℕ) (hn : n ≤ 16) (k : ℕ) (hk : k < 16) (h : k < n) :
    v.readCov (wipedL s w n hn) (slab k hk).toLoadRect = stL (s k hk) (w k hk) (fun _ => ⊥) fun _ => 0 := by
  induction n with
  | zero => omega
  | succ n ih =>
    rw [wipedL]
    by_cases e : n = k
    · subst e
      refine (View.readCov_cons_toLoadRect v _ _ _).trans ?_
      rw [wipedM_miss _ s n _ n hk le_rfl, wipedL_miss _ s w n _ n hk le_rfl]
      rfl
    · rw [View.readCov_skip v _ _ _ _ (slab_apart _ _ e)]
      exact ih _ (by omega)

/-- The wiped weighted sums: a head not yet reached is at zero. -/
theorem wipedA_miss (s : (h : ℕ) → h < 16 → FVec Ideal S512x512 .f32) (w : (h : ℕ) → h < 16 → Vec Ideal S1x1x512x128 .bf16) (n : ℕ) (hn : n ≤ 16) (k : ℕ) (hk : k < 16) (h : n ≤ k) :
    v.readCov (wipedA s w n hn) (slab k hk).toLoadRect = fun _ => 0 := by
  induction n with
  | zero =>
    rw [wipedA]
    refine (View.readCov_fill v (s := S16x512x128) _ _ _ _ fun a => by fin_cases a <;> rfl).trans (funext fun x => ?_)
    exact p6 _
  | succ n ih =>
    rw [wipedA, View.readCov_skip v _ _ _ _ (slab_apart _ _ (by omega))]
    exact ih _ (by omega)

/-- The wiped weighted sums: a head already reached. -/
theorem wipedA_hit (s : (h : ℕ) → h < 16 → FVec Ideal S512x512 .f32) (w : (h : ℕ) → h < 16 → Vec Ideal S1x1x512x128 .bf16) (n : ℕ) (hn : n ≤ 16) (k : ℕ) (hk : k < 16) (h : k < n) :
    v.readCov (wipedA s w n hn) (slab k hk).toLoadRect = stA (s k hk) (w k hk) (fun _ => ⊥) fun _ => 0 := by
  induction n with
  | zero => omega
  | succ n ih =>
    rw [wipedA]
    by_cases e : n = k
    · subst e
      refine (View.readCov_cons_toLoadRect v _ _ _).trans ?_
      rw [wipedM_miss _ s n _ n hk le_rfl, wipedA_miss _ s w n _ n hk le_rfl]
      rfl
    · rw [View.readCov_skip v _ _ _ _ (slab_apart _ _ e)]
      exact ih _ (by omega)
end

/-- The output's block reads back each head's quotient in that head's columns. -/
theorem outs_at (v : View sig .tc .vmem S1x512x2048 .bf16) (A L : List (View.Piece (Elt Ideal) S16x512x128 .f32)) (n : ℕ) (hn : n ≤ 16)
    (k : ℕ) (hk : k < 16) (h : k < n) (r : Fin 512) (j : Fin 128) :
    v.read (Elt Ideal) (v.writes (Elt Ideal) v.junk (outs A L n hn)) (ix3 0 r ⟨k * 128 + j.val, by omega⟩)
      = quot (scM0_2.view.readCov A (slab k hk).toLoadRect) (scM0_1.view.readCov L (slab k hk).toLoadRect) (ix3 0 r j) := by
  induction n with
  | zero => omega
  | succ n ih =>
    rw [outs]
    by_cases e : n = k
    · subst e
      refine View.read_writes_cons_hit_of_coords v _ (cols n hn) _ _ (ix3 0 r j) _ fun a => ?_
      fin_cases a
      · rfl
      · show r.val = 0 + 1 * r.val
        omega
      · show n * 128 + j.val = n * 128 + 1 * j.val
        omega
    · rw [View.read_writes_cons_miss_of_axis v _ _ _ _ (2 : Fin 3) (n * 128) 128 rfl rfl rfl (by
        show k * 128 + j.val < n * 128 ∨ n * 128 + 128 ≤ k * 128 + j.val
        omega)]
      exact ih _ (by omega)

/-- One head of the queries' block, at a row and a lane. -/
theorem rdQ_at (arg4 : Memref sig .tc .vmem S16x1x512x256 .bf16) (x0 : S16x1x512x256.Idx → Elt Ideal .bf16) (h : ℕ) (hh : h < 16) (r : Fin 512) (d : Fin 256) :
    rdQ arg4 x0 h hh (ix4 0 0 r d) = x0 (ix4 ⟨h, hh⟩ 0 r d) := by
  rw [rdQ, View.readAt_apply, View.read_rep]
  refine congrArg x0 (funext fun a => Fin.ext ?_)
  fin_cases a
  · show h + 1 * 0 = h
    omega
  · rfl
  · show 0 + 1 * r.val = r.val
    omega
  · show 0 + 1 * d.val = d.val
    omega

/-- One head of a block of 128 lanes, at a row and a lane. -/
theorem rdH_at (arg5 : Memref sig .tc .vmem S16x1x512x128 .bf16) (x1 : S16x1x512x128.Idx → Elt Ideal .bf16) (h : ℕ) (hh : h < 16) (r : Fin 512) (d : Fin 128) :
    rdH arg5 x1 h hh (ix4 0 0 r d) = x1 (ix4 ⟨h, hh⟩ 0 r d) := by
  rw [rdH, View.readAt_apply, View.read_rep]
  refine congrArg x1 (funext fun a => Fin.ext ?_)
  fin_cases a
  · show h + 1 * 0 = h
    omega
  · rfl
  · show 0 + 1 * r.val = r.val
    omega
  · show 0 + 1 * d.val = d.val
    omega

/-- The shared part of the keys, at a row and a lane. -/
theorem rdP_at (arg6 : Memref sig .tc .vmem S1x512x128 .bf16) (x2 : S1x512x128.Idx → Elt Ideal .bf16) (r : Fin 512) (d : Fin 128) :
    rdP arg6 x2 (ix3 0 r d) = x2 (ix3 0 r d) := by
  rw [rdP, View.readAt_apply, View.read_rep]
  refine congrArg x2 (funext fun a => Fin.ext ?_)
  fin_cases a
  · rfl
  · show 0 + 1 * r.val = r.val
    omega
  · show 0 + 1 * d.val = d.val
    omega

/-- A head's score of row `r` against key `k` of the blocks. -/
theorem sc_at (arg4 : Memref sig .tc .vmem S16x1x512x256 .bf16) (arg5 : Memref sig .tc .vmem S16x1x512x128 .bf16)
    (arg6 : Memref sig .tc .vmem S1x512x128 .bf16) (x0 : S16x1x512x256.Idx → Elt Ideal .bf16) (x1 : S16x1x512x128.Idx → Elt Ideal .bf16)
    (x2 : S1x512x128.Idx → Elt Ideal .bf16) (h : ℕ) (hh : h < 16) (r k : Fin 512) :
    sc arg4 arg5 arg6 x0 x1 x2 h hh (ix2 r k)
      = (∑ x : Fin 128, x0 (ix4 ⟨h, hh⟩ 0 r ⟨x.val, by omega⟩) * x1 (ix4 ⟨h, hh⟩ 0 k x))
        + ∑ x : Fin 128, x0 (ix4 ⟨h, hh⟩ 0 r ⟨128 + x.val, by omega⟩) * x2 (ix3 0 k x) := by
  rw [sc, score_at]
  simp only [rdQ_at, rdH_at, rdP_at]

end Cert.Attn
-- ==== Proof.Tables.lean ====
module

public import proofs.«01_k».proof.Defs
public import Idealize.ShloMosaic.Lib.ReduceAll
public import Idealize.ShloMosaic.PureOps.IdealRules
public import Idealize.ShloMosaic.Lib.Pointwise.Index

@[expose] public section

set_option maxRecDepth 16384

noncomputable section

namespace Cert.Attn

open Idealize.ShloMosaic

/-- The shapes' relations that the first precondition's operations take. -/
theorem preFacts : Cert.Pre_pinned.Facts where
  bcast_S_S136 := by decide
  natLt_1_32 := by decide
  reducesTo_S136_S_d0 := by decide
  h_S_ := by decide

/-- The shapes' relations that the second precondition's operations take. -/
theorem preFiniteFacts : Cert.Pre_pinned_finite.Facts where
  bcast_S_S136 := by decide
  natLt_1_32 := by decide
  reducesTo_S136_S_d0 := by decide
  h_S_ := by decide
  bcast_S_S16x4x8192x256 := by decide
  reducesTo_S16x4x8192x256_S_d0_1_2_3 := by decide
  bcast_S_S16x4x8192x128 := by decide
  reducesTo_S16x4x8192x128_S_d0_1_2_3 := by decide
  bcast_S_S4x8192x128 := by decide
  reducesTo_S4x8192x128_S_d0_1_2 := by decide

/-- The one index of a rank-0 shape. -/
theorem one_index (y z : (⟨0, ![]⟩ : Shape).Idx) : y = z := funext fun a => a.elim0

instance : Subsingleton (⟨0, ![]⟩ : Shape).Idx := ⟨one_index⟩

/-- The query-block table in closed form: how many of the numbers 1, 3, 6, … 120 are at most the step. -/
def rowOf (k : ℕ) : BitVec 32 :=
  BitVec.ofNat 32 ((List.range 15).countP fun n => decide ((n + 1) * (n + 2) / 2 ≤ k))

/-- The key-block table in closed form: the step less the first step of its query block. -/
def colOf (k : ℕ) : BitVec 32 :=
  BitVec.ofNat 32 (k - (rowOf k).toNat * ((rowOf k).toNat + 1) / 2)

/-- The index of a vector of 136 at a number. -/
abbrev at136 (k : Fin 136) : (⟨1, ![136]⟩ : Shape).Idx := fun d => match d with | ⟨0, _⟩ => k

/-- A property of every index of a vector of 136 holds if it holds of each of the 136 numbers. -/
theorem each_index {P : (⟨1, ![136]⟩ : Shape).Idx → Prop} (h : ∀ k : Fin 136, P (at136 k)) (i : (⟨1, ![136]⟩ : Shape).Idx) : P i := by
  have : i = at136 (i 0) := by
    funext a
    match a with
    | ⟨0, _⟩ => rfl
  rw [this]
  exact h (i 0)

/-- Two words that compare equal are equal. -/
theorem eq_of_cmpi {w : ℕ} {a b : BitVec w} (h : IntOp.cmpi .eq a b = 1#1) : a = b := by
  have : (a == b) = true := by
    revert h
    show BitVec.ofBool (a == b) = 1#1 → _
    cases (a == b) <;> decide
  exact beq_iff_eq.1 this

/-- A conjunction of two truth values is true only if both are. -/
theorem andi_split {a b : BitVec 1} (h : IntOp.andi a b = 1#1) : a = 1#1 ∧ b = 1#1 := by
  revert h; revert a b; decide

section
variable {F : FTy → Type} [FloatOps F]

attribute [local instance] preFacts preFiniteFacts

set_option maxHeartbeats 1000000 in
/-- The first precondition says what the two tables hold. -/
theorem tables (a0 a1 : IVec Cert.Pre_pinned.S136 32) (x2 : FVec F Cert.Pre_pinned.S16x4x8192x256 .bf16)
    (x3 : FVec F Cert.Pre_pinned.S16x4x8192x128 .bf16) (x4 : FVec F Cert.Pre_pinned.S4x8192x128 .bf16)
    (x5 : FVec F Cert.Pre_pinned.S16x4x8192x128 .bf16) (x6 x7 : FVec F Cert.Pre_pinned.S32768x7168 .f32)
    (x8 : FVec F Cert.Pre_pinned.S114688x2048 .f32)
    (h : Cert.Pre_pinned.fn a0 a1 x2 x3 x4 x5 x6 x7 x8 = fun _ => 1#1) :
    (∀ i, a0 i = rowOf (i 0).val) ∧ ∀ i, a1 i = colOf (i 0).val := by
  have e := congrFun h (fun a => a.elim0)
  obtain ⟨e0, e1⟩ := andi_split e
  have f0 := fun i => eq_of_cmpi (Host.reduce_andi_all _ _ _ _ _ e0 i)
  have f1 := fun i => eq_of_cmpi (Host.reduce_andi_all _ _ _ _ _ e1 i)
  refine ⟨fun i => (f0 i).trans ?_, fun i => (f1 i).trans ?_⟩
  · clear f0 f1 e0 e1 e h x2 x3 x4 x5 x6 x7 x8 a0 a1
    revert i
    refine each_index ?_
    decide +kernel
  · clear f0 f1 e0 e1 e h x2 x3 x4 x5 x6 x7 x8 a0 a1
    revert i
    refine each_index ?_
    simp only [Cert.Pre_pinned.fn_floor_divide, Cert.Pre_pinned.fn_where]
    decide +kernel

set_option maxHeartbeats 1000000 in
/-- The second precondition says what the two tables hold, and bounds three of the arrays. -/
theorem tables_finite (a0 a1 : IVec Cert.Pre_pinned.S136 32) (x2 : FVec F Cert.Pre_pinned.S16x4x8192x256 .bf16)
    (x3 : FVec F Cert.Pre_pinned.S16x4x8192x128 .bf16) (x4 : FVec F Cert.Pre_pinned.S4x8192x128 .bf16)
    (x5 : FVec F Cert.Pre_pinned.S16x4x8192x128 .bf16) (x6 x7 : FVec F Cert.Pre_pinned.S32768x7168 .f32)
    (x8 : FVec F Cert.Pre_pinned.S114688x2048 .f32)
    (h : Cert.Pre_pinned_finite.fn a0 a1 x2 x3 x4 x5 x6 x7 x8 = fun _ => 1#1) :
    ((∀ i, a0 i = rowOf (i 0).val) ∧ ∀ i, a1 i = colOf (i 0).val)
      ∧ (∀ i, FloatOps.cmpf .olt (FloatOps.hostAbsf (x2 i)) (FloatOps.ofBits (F := F) .bf16 0x7F80#16) = 1#1)
      ∧ (∀ i, FloatOps.cmpf .olt (FloatOps.hostAbsf (x3 i)) (FloatOps.ofBits (F := F) .bf16 0x7F80#16) = 1#1)
      ∧ ∀ i, FloatOps.cmpf .olt (FloatOps.hostAbsf (x4 i)) (FloatOps.ofBits (F := F) .bf16 0x7F80#16) = 1#1 := by
  have e := congrFun h (fun a => a.elim0)
  obtain ⟨e, e4⟩ := andi_split e
  obtain ⟨e, e3⟩ := andi_split e
  obtain ⟨e, e2⟩ := andi_split e
  exact ⟨tables a0 a1 x2 x3 x4 x5 x6 x7 x8 (funext fun u => (congrArg _ (one_index u _)).trans e),
    Host.reduce_andi_all _ _ _ _ _ e2, Host.reduce_andi_all _ _ _ _ _ e3, Host.reduce_andi_all _ _ _ _ _ e4⟩

end

/-- An extended real whose absolute value is below the largest one is a real number. -/
theorem real_of_abs {x : EReal} (h : Ideal.cmp .olt (max x (-x)) (Ideal.ofBits .bf16 0x7F80#16) = 1#1) : ∃ r : ℝ, x = r := by
  have ht : Ideal.ofBits .bf16 0x7F80#16 = ⊤ := by simp [Ideal.ofBits, Ideal.ieee]
  rw [ht] at h
  have hl : max x (-x) < ⊤ := by
    by_contra hn
    simp [Ideal.cmp, hn] at h
  refine ⟨x.toReal, (EReal.coe_toReal ?_ ?_).symm⟩
  · rintro rfl
    simp at hl
  · rintro rfl
    simp at hl

end Cert.Attn
-- ==== Proof.Sched.lean ====
module

public import proofs.«01_k».proof.Proof.Read
public import proofs.«01_k».proof.Proof.Tables
public import proofs.«01_k».proof.Proof.Gen.KernelIdeal.Flash
public import Idealize.ShloMosaic.Lib.Pipeline.ValueKit

@[expose] public section

set_option maxRecDepth 16384

noncomputable section

namespace Cert.Attn

open Cert.KernelIdeal Cert.KernelIdeal.Gen
open Idealize.ShloMosaic
open Idealize.ShloMosaic.TcCoe Idealize.ShloMosaic.Tactic

/-- The query block of pair `k`. -/
def qiN (k : ℕ) : ℕ := (List.range 15).countP fun j => decide ((j + 1) * (j + 2) / 2 ≤ k)

/-- The key block of pair `k`. -/
def kiN (k : ℕ) : ℕ := k - qiN k * (qiN k + 1) / 2

/-- The key block is not beyond the query block. -/
theorem pair_le : ∀ k : Fin 136, kiN k.val ≤ qiN k.val ∧ qiN k.val < 16 := by
  decide +kernel

/-- Unless the key block is the first, the pair before has the same query block and the key block before. -/
theorem pair_pred : ∀ k : Fin 136, kiN k.val ≠ 0 → 0 < k.val ∧ qiN (k.val - 1) = qiN k.val ∧ kiN (k.val - 1) + 1 = kiN k.val := by
  decide +kernel

/-- Where the blocks of the queries, the keys, the shared keys, the values and the output lie. -/
theorem places : ∀ t : Fin (cfgA 0).N,
    ((cfgA 0).win 0).index t = ![0, t.val / 136, qiN (t.val % 136), 0] ∧ ((cfgA 0).win 1).index t = ![0, t.val / 136, kiN (t.val % 136), 0]
      ∧ ((cfgA 0).win 2).index t = ![t.val / 136, kiN (t.val % 136), 0] ∧ ((cfgA 0).win 3).index t = ![0, t.val / 136, kiN (t.val % 136), 0]
      ∧ ((cfgA 0).win 7).index t = ![t.val / 136, qiN (t.val % 136), 0] := by
  decide +kernel

/-- Which path a point takes, and when the output's block goes out. -/
theorem paths : ∀ t : Fin (cfgA 0).N, (P0_0 0 t ↔ kiN (t.val % 136) = 0) ∧ (P0_1 0 t ↔ kiN (t.val % 136) < qiN (t.val % 136))
    ∧ (((cfgA 0).win 7).flush t = true → kiN (t.val % 136) = qiN (t.val % 136)) := by
  decide +kernel

/-- The output's blocks cover it. -/
theorem covers7 : ((cfgA 0).win 7).Covers := by
  decide +kernel

/-- The blocks of the weights and of their casts lie at the same places. -/
theorem places8 : ∀ t : Fin (cfgA 0).N, ((cfgA 0).win 4).index t = ((cfgA 0).win 8).index t
    ∧ ((cfgA 0).win 5).index t = ((cfgA 0).win 9).index t ∧ ((cfgA 0).win 6).index t = ((cfgA 0).win 10).index t := by
  decide +kernel

/-- The casts' blocks cover them. -/
theorem covers8 : ((cfgA 0).win 8).Covers := by
  decide +kernel
/-- The casts' blocks cover them. -/
theorem covers9 : ((cfgA 0).win 9).Covers := by
  decide +kernel
/-- The casts' blocks cover them. -/
theorem covers10 : ((cfgA 0).win 10).Covers := by
  decide +kernel

end Cert.Attn
-- ==== Proof.Steps.lean ====
module

public import proofs.«01_k».proof.Proof.Read
public import proofs.«01_k».proof.Proof.Gen.KernelIdeal.Flash

@[expose] public section

set_option maxRecDepth 65536

noncomputable section

namespace Cert.Attn

open Cert.KernelIdeal Cert.KernelIdeal.Gen
open Idealize.ShloMosaic
open Idealize.ShloMosaic.TcCoe Idealize.ShloMosaic.Tactic

variable (m : (ℓ : Loc nD τ sig) → Buf (Elt Ideal) ℓ) (ρ : Dev nD → PrngReg) (c : Dev nD) (t : Fin (cfgA 0).N)

/-- What a point leaves: the four output blocks and the three scratches. -/
abbrev St (c : Dev nD) : Type := (S1x512x2048.Idx → Elt Ideal .bf16) × (S32x7168.Idx → Elt Ideal .bf16) × (S32x7168.Idx → Elt Ideal .bf16) × (S128x2048.Idx → Elt Ideal .bf16)
  × Buf (Elt Ideal) ((c : Thread nD τ).loc cc0_scratch0) × Buf (Elt Ideal) ((c : Thread nD τ).loc cc0_scratch1) × Buf (Elt Ideal) ((c : Thread nD τ).loc cc0_scratch2)

/-- Head `h`'s running maxima in what a point leaves. -/
abbrev stm (s : St c) (h : ℕ) (hh : h < 16) : Vec Ideal S1x512x128 .f32 := rdS scM0_0.view s.2.2.2.2.1 h hh
/-- Head `h`'s sums of weights in what a point leaves. -/
abbrev stl (s : St c) (h : ℕ) (hh : h < 16) : Vec Ideal S1x512x128 .f32 := rdS scM0_1.view s.2.2.2.2.2.1 h hh
/-- Head `h`'s weighted sums in what a point leaves. -/
abbrev sta (s : St c) (h : ℕ) (hh : h < 16) : Vec Ideal S1x512x128 .f32 := rdS scM0_2.view s.2.2.2.2.2.2 h hh

/-- Head `h`'s scores at a point. -/
abbrev scT (h : ℕ) (hh : h < 16) : FVec Ideal S512x512 .f32 :=
  sc (ms0_0 0 t) (ms0_1 0 t) (ms0_2 0 t) (iblk 0 m ρ c (0 : Fin 11) t) (iblk 0 m ρ c (1 : Fin 11) t) (iblk 0 m ρ c (2 : Fin 11) t) h hh
/-- Head `h`'s values at a point. -/
abbrev vT (h : ℕ) (hh : h < 16) : Vec Ideal S1x1x512x128 .bf16 := rdH (ms0_3 0 t) (iblk 0 m ρ c (3 : Fin 11) t) h hh

/-- A block written whole with the cast of a block read whole is that block. -/
theorem cast8 (a : Memref sig .tc .vmem S32x7168 .f32) (x : S32x7168.Idx → Elt Ideal .f32) :
    VO0_8.read (Elt Ideal) (VO0_8.writes (Elt Ideal) VO0_8.junk [⟨Rect.unit ![0, 0] S32x7168.size inb_S32x7168_S32x7168_0_0,
      k0_pay1 (View.readAt (Elt Ideal) a.view (Rect.unit ![0, 0] S32x7168.size inb_S32x7168_S32x7168_0_0).toLoadRect (a.view.rep x))⟩]) = x := by
  funext y
  refine (View.read_writes_cons_hit_of_coords VO0_8 _ _ _ _ y y fun a => ?_).trans ?_
  · fin_cases a
    · show _ = 0 + 1 * _
      omega
    · show _ = 0 + 1 * _
      omega
  · rw [View.readAt_rep_full]
    rfl

/-- A block written whole with the cast of a block read whole is that block. -/
theorem cast9 (a : Memref sig .tc .vmem S32x7168 .f32) (x : S32x7168.Idx → Elt Ideal .f32) :
    VO0_9.read (Elt Ideal) (VO0_9.writes (Elt Ideal) VO0_9.junk [⟨Rect.unit ![0, 0] S32x7168.size inb_S32x7168_S32x7168_0_0,
      k0_pay2 (View.readAt (Elt Ideal) a.view (Rect.unit ![0, 0] S32x7168.size inb_S32x7168_S32x7168_0_0).toLoadRect (a.view.rep x))⟩]) = x := by
  funext y
  refine (View.read_writes_cons_hit_of_coords VO0_9 _ _ _ _ y y fun a => ?_).trans ?_
  · fin_cases a
    · show _ = 0 + 1 * _
      omega
    · show _ = 0 + 1 * _
      omega
  · rw [View.readAt_rep_full]
    rfl

/-- A block written whole with the cast of a block read whole is that block. -/
theorem cast10 (a : Memref sig .tc .vmem S128x2048 .f32) (x : S128x2048.Idx → Elt Ideal .f32) :
    VO0_10.read (Elt Ideal) (VO0_10.writes (Elt Ideal) VO0_10.junk [⟨Rect.unit ![0, 0] S128x2048.size inb_S128x2048_S128x2048_0_0,
      k0_pay3 (View.readAt (Elt Ideal) a.view (Rect.unit ![0, 0] S128x2048.size inb_S128x2048_S128x2048_0_0).toLoadRect (a.view.rep x))⟩]) = x := by
  funext y
  refine (View.read_writes_cons_hit_of_coords VO0_10 _ _ _ _ y y fun a => ?_).trans ?_
  · fin_cases a
    · show _ = 0 + 1 * _
      omega
    · show _ = 0 + 1 * _
      omega
  · rw [View.readAt_rep_full]
    rfl

/-- What scratch 0 holds after a point that starts and ends a row of blocks. -/
theorem raw_A0 (prev : St c) (q0 : P0_0 0 t) (q1 : ¬ P0_1 0 t) :
    (step0 0 m ρ c t prev).2.2.2.2.1 = scM0_0.view.writes (Elt Ideal) scM0_0.view.junk (kernelRun0_A.sl.HS0_17 (ms0_0 0 t) (ms0_1 0 t) (ms0_2 0 t) (iblk 0 m ρ c (0 : Fin 11) t) (iblk 0 m ρ c (1 : Fin 11) t) (iblk 0 m ρ c (2 : Fin 11) t)) := by
  rw [step0_A 0 m ρ c t prev q0 q1]
  dsimp only
  delta kernelRun0_A
  dsimp only

/-- What scratch 1 holds after a point that starts and ends a row of blocks. -/
theorem raw_A1 (prev : St c) (q0 : P0_0 0 t) (q1 : ¬ P0_1 0 t) :
    (step0 0 m ρ c t prev).2.2.2.2.2.1 = scM0_1.view.writes (Elt Ideal) scM0_1.view.junk (kernelRun0_A.sl.HS1_17 (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t)) := by
  rw [step0_A 0 m ρ c t prev q0 q1]
  dsimp only
  delta kernelRun0_A
  dsimp only

/-- What scratch 2 holds after a point that starts and ends a row of blocks. -/
theorem raw_A2 (prev : St c) (q0 : P0_0 0 t) (q1 : ¬ P0_1 0 t) :
    (step0 0 m ρ c t prev).2.2.2.2.2.2 = scM0_2.view.writes (Elt Ideal) scM0_2.view.junk (kernelRun0_A.sl.HS2_17 (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t)) := by
  rw [step0_A 0 m ρ c t prev q0 q1]
  dsimp only
  delta kernelRun0_A
  dsimp only

/-- The output's block after a point that starts and ends a row of blocks. -/
theorem raw_A7 (prev : St c) (q0 : P0_0 0 t) (q1 : ¬ P0_1 0 t) :
    (step0 0 m ρ c t prev).1 = VO0_7.read (Elt Ideal) (VO0_7.writes (Elt Ideal) VO0_7.junk (kernelRun0_A.sl.HO7_16 (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t))) := by
  rw [step0_A 0 m ρ c t prev q0 q1]
  dsimp only
  delta out0_A_7 kernelRun0_A
  rfl

/-- What scratch 0 holds after a point that starts but does not end a row of blocks. -/
theorem raw_B0 (prev : St c) (q0 : P0_0 0 t) (q1 : P0_1 0 t) :
    (step0 0 m ρ c t prev).2.2.2.2.1 = scM0_0.view.writes (Elt Ideal) scM0_0.view.junk (kernelRun0_B.sl.HS0_17 (ms0_0 0 t) (ms0_1 0 t) (ms0_2 0 t) (iblk 0 m ρ c (0 : Fin 11) t) (iblk 0 m ρ c (1 : Fin 11) t) (iblk 0 m ρ c (2 : Fin 11) t)) := by
  rw [step0_B 0 m ρ c t prev q0 q1]
  dsimp only
  delta kernelRun0_B
  dsimp only

/-- What scratch 1 holds after a point that starts but does not end a row of blocks. -/
theorem raw_B1 (prev : St c) (q0 : P0_0 0 t) (q1 : P0_1 0 t) :
    (step0 0 m ρ c t prev).2.2.2.2.2.1 = scM0_1.view.writes (Elt Ideal) scM0_1.view.junk (kernelRun0_B.sl.HS1_17 (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t)) := by
  rw [step0_B 0 m ρ c t prev q0 q1]
  dsimp only
  delta kernelRun0_B
  dsimp only

/-- What scratch 2 holds after a point that starts but does not end a row of blocks. -/
theorem raw_B2 (prev : St c) (q0 : P0_0 0 t) (q1 : P0_1 0 t) :
    (step0 0 m ρ c t prev).2.2.2.2.2.2 = scM0_2.view.writes (Elt Ideal) scM0_2.view.junk (kernelRun0_B.sl.HS2_17 (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t)) := by
  rw [step0_B 0 m ρ c t prev q0 q1]
  dsimp only
  delta kernelRun0_B
  dsimp only

/-- What scratch 0 holds after a point that does not start but ends a row of blocks. -/
theorem raw_C0 (prev : St c) (q0 : ¬ P0_0 0 t) (q1 : ¬ P0_1 0 t) :
    (step0 0 m ρ c t prev).2.2.2.2.1 = scM0_0.view.writes (Elt Ideal) scM0_0.view.junk (kernelRun0_C.sl.HS0_16 c (ms0_0 0 t) (ms0_1 0 t) (ms0_2 0 t) (iblk 0 m ρ c (0 : Fin 11) t) (iblk 0 m ρ c (1 : Fin 11) t) (iblk 0 m ρ c (2 : Fin 11) t) prev.2.2.2.2.1) := by
  rw [step0_C 0 m ρ c t prev q0 q1]
  dsimp only
  delta kernelRun0_C
  dsimp only

/-- What scratch 1 holds after a point that does not start but ends a row of blocks. -/
theorem raw_C1 (prev : St c) (q0 : ¬ P0_0 0 t) (q1 : ¬ P0_1 0 t) :
    (step0 0 m ρ c t prev).2.2.2.2.2.1 = scM0_1.view.writes (Elt Ideal) scM0_1.view.junk (kernelRun0_C.sl.HS1_16 c (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t) prev.2.2.2.2.1 prev.2.2.2.2.2.1) := by
  rw [step0_C 0 m ρ c t prev q0 q1]
  dsimp only
  delta kernelRun0_C
  dsimp only

/-- What scratch 2 holds after a point that does not start but ends a row of blocks. -/
theorem raw_C2 (prev : St c) (q0 : ¬ P0_0 0 t) (q1 : ¬ P0_1 0 t) :
    (step0 0 m ρ c t prev).2.2.2.2.2.2 = scM0_2.view.writes (Elt Ideal) scM0_2.view.junk (kernelRun0_C.sl.HS2_16 c (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t) prev.2.2.2.2.1 prev.2.2.2.2.2.2) := by
  rw [step0_C 0 m ρ c t prev q0 q1]
  dsimp only
  delta kernelRun0_C
  dsimp only

/-- The output's block after a point that does not start but ends a row of blocks. -/
theorem raw_C7 (prev : St c) (q0 : ¬ P0_0 0 t) (q1 : ¬ P0_1 0 t) :
    (step0 0 m ρ c t prev).1 = VO0_7.read (Elt Ideal) (VO0_7.writes (Elt Ideal) VO0_7.junk (kernelRun0_C.sl.HO7_16 c (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t) prev.2.2.2.2.1 prev.2.2.2.2.2.1 prev.2.2.2.2.2.2)) := by
  rw [step0_C 0 m ρ c t prev q0 q1]
  dsimp only
  delta out0_C_7 kernelRun0_C
  rfl

/-- What scratch 0 holds after a point that neither starts nor ends a row of blocks. -/
theorem raw_D0 (prev : St c) (q0 : ¬ P0_0 0 t) (q1 : P0_1 0 t) :
    (step0 0 m ρ c t prev).2.2.2.2.1 = scM0_0.view.writes (Elt Ideal) scM0_0.view.junk (kernelRun0_D.sl.HS0_16 c (ms0_0 0 t) (ms0_1 0 t) (ms0_2 0 t) (iblk 0 m ρ c (0 : Fin 11) t) (iblk 0 m ρ c (1 : Fin 11) t) (iblk 0 m ρ c (2 : Fin 11) t) prev.2.2.2.2.1) := by
  rw [step0_D 0 m ρ c t prev q0 q1]
  dsimp only
  delta kernelRun0_D
  dsimp only

/-- What scratch 1 holds after a point that neither starts nor ends a row of blocks. -/
theorem raw_D1 (prev : St c) (q0 : ¬ P0_0 0 t) (q1 : P0_1 0 t) :
    (step0 0 m ρ c t prev).2.2.2.2.2.1 = scM0_1.view.writes (Elt Ideal) scM0_1.view.junk (kernelRun0_D.sl.HS1_16 c (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t) prev.2.2.2.2.1 prev.2.2.2.2.2.1) := by
  rw [step0_D 0 m ρ c t prev q0 q1]
  dsimp only
  delta kernelRun0_D
  dsimp only

/-- What scratch 2 holds after a point that neither starts nor ends a row of blocks. -/
theorem raw_D2 (prev : St c) (q0 : ¬ P0_0 0 t) (q1 : P0_1 0 t) :
    (step0 0 m ρ c t prev).2.2.2.2.2.2 = scM0_2.view.writes (Elt Ideal) scM0_2.view.junk (kernelRun0_D.sl.HS2_16 c (ms0_0 0 t) (ms0_1 0 t) (ms0_2 0 t) (ms0_3 0 t) (iblk 0 m ρ c (0 : Fin 11) t) (iblk 0 m ρ c (1 : Fin 11) t) (iblk 0 m ρ c (2 : Fin 11) t) (iblk 0 m ρ c (3 : Fin 11) t) prev.2.2.2.2.1 prev.2.2.2.2.2.2) := by
  rw [step0_D 0 m ρ c t prev q0 q1]
  dsimp only
  delta kernelRun0_D
  dsimp only

/-- Head `h` after a point that starts and ends a row of blocks. -/
theorem step_A (prev : St c) (q0 : P0_0 0 t) (q1 : ¬ P0_1 0 t) (h : ℕ) (hh : h < 16) :
    stm c (step0 0 m ρ c t prev) h hh = stM (hide (scT m ρ c t h hh)) (fun _ => ⊥)
      ∧ stl c (step0 0 m ρ c t prev) h hh = stL (hide (scT m ρ c t h hh)) (vT m ρ c t h hh) (fun _ => ⊥) (fun _ => 0)
      ∧ sta c (step0 0 m ρ c t prev) h hh = stA (hide (scT m ρ c t h hh)) (vT m ρ c t h hh) (fun _ => ⊥) (fun _ => 0) := by
  refine ⟨?_, ?_, ?_⟩
  · rw [stm, raw_A0 m ρ c t prev q0 q1, A_m]
    exact wipedM_hit _ _ _ _ _ _ hh
  · rw [stl, raw_A1 m ρ c t prev q0 q1, A_l]
    exact wipedL_hit _ _ _ _ _ _ _ hh
  · rw [sta, raw_A2 m ρ c t prev q0 q1, A_a]
    exact wipedA_hit _ _ _ _ _ _ _ hh

/-- The output's block after a point that starts and ends a row of blocks: each head's quotient of what its scratches then hold. -/
theorem out_A (prev : St c) (q0 : P0_0 0 t) (q1 : ¬ P0_1 0 t) (h : ℕ) (hh : h < 16) (r : Fin 512) (j : Fin 128) :
    (step0 0 m ρ c t prev).1 (ix3 0 r ⟨h * 128 + j.val, by omega⟩)
      = quot (sta c (step0 0 m ρ c t prev) h hh) (stl c (step0 0 m ρ c t prev) h hh) (ix3 0 r j) := by
  rw [raw_A7 m ρ c t prev q0 q1, A_out, stl, sta, raw_A1 m ρ c t prev q0 q1, raw_A2 m ρ c t prev q0 q1]
  exact outs_at _ _ _ _ _ _ hh hh r j

/-- The cast's block 8 after a point that starts and ends a row of blocks. -/
theorem cast_A8 (prev : St c) (q0 : P0_0 0 t) (q1 : ¬ P0_1 0 t) :
    (step0 0 m ρ c t prev).2.1 = (iblk 0 m ρ c (4 : Fin 11) t) := by
  rw [step0_A 0 m ρ c t prev q0 q1]
  dsimp only
  delta out0_A_8 kernelRun0_A
  dsimp only
  exact cast8 _ _

/-- The cast's block 9 after a point that starts and ends a row of blocks. -/
theorem cast_A9 (prev : St c) (q0 : P0_0 0 t) (q1 : ¬ P0_1 0 t) :
    (step0 0 m ρ c t prev).2.2.1 = (iblk 0 m ρ c (5 : Fin 11) t) := by
  rw [step0_A 0 m ρ c t prev q0 q1]
  dsimp only
  delta out0_A_9 kernelRun0_A
  dsimp only
  exact cast9 _ _

/-- The cast's block 10 after a point that starts and ends a row of blocks. -/
theorem cast_A10 (prev : St c) (q0 : P0_0 0 t) (q1 : ¬ P0_1 0 t) :
    (step0 0 m ρ c t prev).2.2.2.1 = (iblk 0 m ρ c (6 : Fin 11) t) := by
  rw [step0_A 0 m ρ c t prev q0 q1]
  dsimp only
  delta out0_A_10 kernelRun0_A
  dsimp only
  exact cast10 _ _

/-- Head `h` after a point that starts but does not end a row of blocks. -/
theorem step_B (prev : St c) (q0 : P0_0 0 t) (q1 : P0_1 0 t) (h : ℕ) (hh : h < 16) :
    stm c (step0 0 m ρ c t prev) h hh = stM (scT m ρ c t h hh) (fun _ => ⊥)
      ∧ stl c (step0 0 m ρ c t prev) h hh = stL (scT m ρ c t h hh) (vT m ρ c t h hh) (fun _ => ⊥) (fun _ => 0)
      ∧ sta c (step0 0 m ρ c t prev) h hh = stA (scT m ρ c t h hh) (vT m ρ c t h hh) (fun _ => ⊥) (fun _ => 0) := by
  refine ⟨?_, ?_, ?_⟩
  · rw [stm, raw_B0 m ρ c t prev q0 q1, B_m]
    exact wipedM_hit _ _ _ _ _ _ hh
  · rw [stl, raw_B1 m ρ c t prev q0 q1, B_l]
    exact wipedL_hit _ _ _ _ _ _ _ hh
  · rw [sta, raw_B2 m ρ c t prev q0 q1, B_a]
    exact wipedA_hit _ _ _ _ _ _ _ hh

/-- The cast's block 8 after a point that starts but does not end a row of blocks. -/
theorem cast_B8 (prev : St c) (q0 : P0_0 0 t) (q1 : P0_1 0 t) :
    (step0 0 m ρ c t prev).2.1 = (iblk 0 m ρ c (4 : Fin 11) t) := by
  rw [step0_B 0 m ρ c t prev q0 q1]
  dsimp only
  delta out0_B_8 kernelRun0_B
  dsimp only
  exact cast8 _ _

/-- The cast's block 9 after a point that starts but does not end a row of blocks. -/
theorem cast_B9 (prev : St c) (q0 : P0_0 0 t) (q1 : P0_1 0 t) :
    (step0 0 m ρ c t prev).2.2.1 = (iblk 0 m ρ c (5 : Fin 11) t) := by
  rw [step0_B 0 m ρ c t prev q0 q1]
  dsimp only
  delta out0_B_9 kernelRun0_B
  dsimp only
  exact cast9 _ _

/-- The cast's block 10 after a point that starts but does not end a row of blocks. -/
theorem cast_B10 (prev : St c) (q0 : P0_0 0 t) (q1 : P0_1 0 t) :
    (step0 0 m ρ c t prev).2.2.2.1 = (iblk 0 m ρ c (6 : Fin 11) t) := by
  rw [step0_B 0 m ρ c t prev q0 q1]
  dsimp only
  delta out0_B_10 kernelRun0_B
  dsimp only
  exact cast10 _ _

/-- Head `h` after a point that does not start but ends a row of blocks. -/
theorem step_C (prev : St c) (q0 : ¬ P0_0 0 t) (q1 : ¬ P0_1 0 t) (h : ℕ) (hh : h < 16) :
    stm c (step0 0 m ρ c t prev) h hh = stM (hide (scT m ρ c t h hh)) (stm c prev h hh)
      ∧ stl c (step0 0 m ρ c t prev) h hh = stL (hide (scT m ρ c t h hh)) (vT m ρ c t h hh) (stm c prev h hh) (stl c prev h hh)
      ∧ sta c (step0 0 m ρ c t prev) h hh = stA (hide (scT m ρ c t h hh)) (vT m ρ c t h hh) (stm c prev h hh) (sta c prev h hh) := by
  refine ⟨?_, ?_, ?_⟩
  · rw [stm, raw_C0 m ρ c t prev q0 q1, C_m]
    exact slabs_hit _ _ _ _ _ _ _ hh
  · rw [stl, raw_C1 m ρ c t prev q0 q1, C_l]
    exact slabs_hit _ _ _ _ _ _ _ hh
  · rw [sta, raw_C2 m ρ c t prev q0 q1, C_a]
    exact slabs_hit _ _ _ _ _ _ _ hh

/-- The output's block after a point that does not start but ends a row of blocks: each head's quotient of what its scratches then hold. -/
theorem out_C (prev : St c) (q0 : ¬ P0_0 0 t) (q1 : ¬ P0_1 0 t) (h : ℕ) (hh : h < 16) (r : Fin 512) (j : Fin 128) :
    (step0 0 m ρ c t prev).1 (ix3 0 r ⟨h * 128 + j.val, by omega⟩)
      = quot (sta c (step0 0 m ρ c t prev) h hh) (stl c (step0 0 m ρ c t prev) h hh) (ix3 0 r j) := by
  rw [raw_C7 m ρ c t prev q0 q1, C_out, stl, sta, raw_C1 m ρ c t prev q0 q1, raw_C2 m ρ c t prev q0 q1]
  exact outs_at _ _ _ _ _ _ hh hh r j

/-- The cast's block 8 after a point that does not start but ends a row of blocks. -/
theorem cast_C8 (prev : St c) (q0 : ¬ P0_0 0 t) (q1 : ¬ P0_1 0 t) :
    (step0 0 m ρ c t prev).2.1 = (iblk 0 m ρ c (4 : Fin 11) t) := by
  rw [step0_C 0 m ρ c t prev q0 q1]
  dsimp only
  delta out0_C_8 kernelRun0_C
  dsimp only
  exact cast8 _ _

/-- The cast's block 9 after a point that does not start but ends a row of blocks. -/
theorem cast_C9 (prev : St c) (q0 : ¬ P0_0 0 t) (q1 : ¬ P0_1 0 t) :
    (step0 0 m ρ c t prev).2.2.1 = (iblk 0 m ρ c (5 : Fin 11) t) := by
  rw [step0_C 0 m ρ c t prev q0 q1]
  dsimp only
  delta out0_C_9 kernelRun0_C
  dsimp only
  exact cast9 _ _

/-- The cast's block 10 after a point that does not start but ends a row of blocks. -/
theorem cast_C10 (prev : St c) (q0 : ¬ P0_0 0 t) (q1 : ¬ P0_1 0 t) :
    (step0 0 m ρ c t prev).2.2.2.1 = (iblk 0 m ρ c (6 : Fin 11) t) := by
  rw [step0_C 0 m ρ c t prev q0 q1]
  dsimp only
  delta out0_C_10 kernelRun0_C
  dsimp only
  exact cast10 _ _

/-- Head `h` after a point that neither starts nor ends a row of blocks. -/
theorem step_D (prev : St c) (q0 : ¬ P0_0 0 t) (q1 : P0_1 0 t) (h : ℕ) (hh : h < 16) :
    stm c (step0 0 m ρ c t prev) h hh = stM (scT m ρ c t h hh) (stm c prev h hh)
      ∧ stl c (step0 0 m ρ c t prev) h hh = stL (scT m ρ c t h hh) (vT m ρ c t h hh) (stm c prev h hh) (stl c prev h hh)
      ∧ sta c (step0 0 m ρ c t prev) h hh = stA (scT m ρ c t h hh) (vT m ρ c t h hh) (stm c prev h hh) (sta c prev h hh) := by
  refine ⟨?_, ?_, ?_⟩
  · rw [stm, raw_D0 m ρ c t prev q0 q1, D_m]
    exact slabs_hit _ _ _ _ _ _ _ hh
  · rw [stl, raw_D1 m ρ c t prev q0 q1, D_l]
    exact slabs_hit _ _ _ _ _ _ _ hh
  · rw [sta, raw_D2 m ρ c t prev q0 q1, D_a]
    exact slabs_hit _ _ _ _ _ _ _ hh

/-- The cast's block 8 after a point that neither starts nor ends a row of blocks. -/
theorem cast_D8 (prev : St c) (q0 : ¬ P0_0 0 t) (q1 : P0_1 0 t) :
    (step0 0 m ρ c t prev).2.1 = (iblk 0 m ρ c (4 : Fin 11) t) := by
  rw [step0_D 0 m ρ c t prev q0 q1]
  dsimp only
  delta out0_D_8 kernelRun0_D
  dsimp only
  exact cast8 _ _

/-- The cast's block 9 after a point that neither starts nor ends a row of blocks. -/
theorem cast_D9 (prev : St c) (q0 : ¬ P0_0 0 t) (q1 : P0_1 0 t) :
    (step0 0 m ρ c t prev).2.2.1 = (iblk 0 m ρ c (5 : Fin 11) t) := by
  rw [step0_D 0 m ρ c t prev q0 q1]
  dsimp only
  delta out0_D_9 kernelRun0_D
  dsimp only
  exact cast9 _ _

/-- The cast's block 10 after a point that neither starts nor ends a row of blocks. -/
theorem cast_D10 (prev : St c) (q0 : ¬ P0_0 0 t) (q1 : P0_1 0 t) :
    (step0 0 m ρ c t prev).2.2.2.1 = (iblk 0 m ρ c (6 : Fin 11) t) := by
  rw [step0_D 0 m ρ c t prev q0 q1]
  dsimp only
  delta out0_D_10 kernelRun0_D
  dsimp only
  exact cast10 _ _

end Cert.Attn
-- ==== Proof.Blocks.lean ====
module

public import proofs.«01_k».proof.Proof.Sched
public import proofs.«01_k».proof.Proof.Steps

@[expose] public section

set_option maxRecDepth 16384

noncomputable section

namespace Cert.Attn

open Cert.KernelIdeal Cert.KernelIdeal.Gen
open Idealize.ShloMosaic
open Idealize.ShloMosaic.TcCoe Idealize.ShloMosaic.Tactic

variable (m : (ℓ : Loc nD τ sig) → Buf (Elt Ideal) ℓ) (ρ : Dev nD → PrngReg) (c : Dev nD) (t : Fin (cfgA 0).N)

/-- The grid's points: four batches of 136 pairs. -/
theorem lt_points : t.val < 544 := t.isLt

/-- A point's batch. -/
def bT : Fin 4 := ⟨t.val / 136, by have := lt_points t; omega⟩

/-- The position of row `r` of a point's query block. -/
def qT (r : Fin 512) : Fin 8192 := ⟨qiN (t.val % 136) * 512 + r.val, by
  have := (pair_le ⟨t.val % 136, Nat.mod_lt _ (by omega)⟩).2
  simp only at this
  omega⟩

/-- The position of key `k` of a point's key block. -/
def kT (k : Fin 512) : Fin 8192 := ⟨kiN (t.val % 136) * 512 + k.val, by
  have := pair_le ⟨t.val % 136, Nat.mod_lt _ (by omega)⟩
  simp only at this
  omega⟩

/-- The queries. -/
abbrev aQ : S16x4x8192x256.Idx → EReal := m ((c.tc : Thread nD τ).loc main_arg2)
/-- The keys' own part. -/
abbrev aK : S16x4x8192x128.Idx → EReal := m ((c.tc : Thread nD τ).loc main_arg3)
/-- The keys' shared part. -/
abbrev aP : S4x8192x128.Idx → EReal := m ((c.tc : Thread nD τ).loc main_arg4)
/-- The values. -/
abbrev aV : S16x4x8192x128.Idx → EReal := m ((c.tc : Thread nD τ).loc main_arg5)

/-- A point's block of the queries. -/
theorem iblk0 (h : Fin 16) (r : Fin 512) (d : Fin 256) :
    iblk 0 m ρ c (0 : Fin 11) t (ix4 h 0 r d) = aQ m c (ix4 h (bT t) (qT t r) d) := by
  have e := (places t).1
  blk_ext [iblk, e, bT, qT]

/-- A point's block of the keys' own part. -/
theorem iblk1 (h : Fin 16) (r : Fin 512) (d : Fin 128) :
    iblk 0 m ρ c (1 : Fin 11) t (ix4 h 0 r d) = aK m c (ix4 h (bT t) (kT t r) d) := by
  have e := (places t).2.1
  blk_ext [iblk, e, bT, kT]

/-- A point's block of the keys' shared part. -/
theorem iblk2 (r : Fin 512) (d : Fin 128) :
    iblk 0 m ρ c (2 : Fin 11) t (ix3 0 r d) = aP m c (ix3 (bT t) (kT t r) d) := by
  have e := (places t).2.2.1
  blk_ext [iblk, e, bT, kT]

/-- A point's block of the values. -/
theorem iblk3 (h : Fin 16) (r : Fin 512) (d : Fin 128) :
    iblk 0 m ρ c (3 : Fin 11) t (ix4 h 0 r d) = aV m c (ix4 h (bT t) (kT t r) d) := by
  have e := (places t).2.2.2.1
  blk_ext [iblk, e, bT, kT]

end Cert.Attn
-- ==== Proof.Soft.lean ====
module

public import Idealize.ShloMosaic.Lib.Pointwise

@[expose] public section

noncomputable section

namespace Cert.Attn

open Idealize.ShloMosaic

/-- A real number or the least value: what a score is. -/
def Low (x : EReal) : Prop := x = ⊥ ∨ ∃ r : ℝ, x = r

/-- The running maximum of finitely many such values is one of them or the least. -/
theorem low_fold {ι : Type*} (s : Finset ι) (f : ι → EReal) (h : ∀ i, Low (f i)) : Low (s.fold max ⊥ f) := by
  classical
  induction s using Finset.induction_on with
  | empty => exact .inl (by simp)
  | insert a s ha ih =>
    rw [Finset.fold_insert ha]
    rcases max_choice (f a) (s.fold max ⊥ f) with e | e <;> rw [e]
    · exact h a
    · exact ih

/-- It is not below any of them. -/
theorem le_foldmax {ι : Type*} (s : Finset ι) (f : ι → EReal) (i : ι) (hi : i ∈ s) : f i ≤ s.fold max ⊥ f := by
  rw [Finset.le_fold_max]
  exact .inr ⟨i, hi, le_rfl⟩

/-- With a real value among them the maximum is real. -/
theorem real_foldmax {ι : Type*} (s : Finset ι) (f : ι → EReal) (h : ∀ i, Low (f i)) (i : ι) (hi : i ∈ s) (r : ℝ) (hr : f i = r) :
    ∃ x : ℝ, s.fold max ⊥ f = x := by
  rcases low_fold s f h with e | e
  · have := le_foldmax s f i hi
    rw [e, hr] at this
    simp at this
  · exact e

/-- The maximum of a score and a real number is real. -/
theorem real_max {x y : EReal} (hx : Low x) (hy : ∃ r : ℝ, y = r) : ∃ r : ℝ, max x y = r := by
  obtain ⟨r, rfl⟩ := hy
  rcases hx with rfl | ⟨s, rfl⟩
  · exact ⟨r, by simp⟩
  · exact ⟨max s r, (EReal.coe_strictMono.monotone.map_max).symm⟩

/-- The power of two of a score less a real number is a nonnegative real. -/
theorem exp2_low {x : EReal} (hx : Low x) (μ : ℝ) : ∃ r : ℝ, 0 ≤ r ∧ Ideal.exp2 (x - μ) = r := by
  rcases hx with rfl | ⟨s, rfl⟩
  · exact ⟨0, le_rfl, by rw [EReal.bot_sub]; rfl⟩
  · exact ⟨2 ^ (s - μ), by positivity, by rw [← EReal.coe_sub]; rfl⟩

/-- The power of two of a real difference. -/
theorem exp2_pos (s μ : ℝ) : Ideal.exp2 ((s : EReal) - μ) = ((2 ^ (s - μ) : ℝ) : EReal) := by
  rw [← EReal.coe_sub]; rfl

/-- Moving the reference point of a power of two. -/
theorem exp2_shift {x : EReal} (hx : Low x) {μ : EReal} (hμ : Low μ) (ν : ℝ) (h0 : μ = ⊥ → x = ⊥) :
    Ideal.exp2 (μ - ν) * Ideal.exp2 (x - μ) = Ideal.exp2 (x - ν) := by
  rcases hμ with rfl | ⟨m, rfl⟩
  · rw [h0 rfl]
    simp only [EReal.bot_sub]
    show (0 : EReal) * 0 = 0
    simp
  rcases hx with rfl | ⟨s, rfl⟩
  · simp only [EReal.bot_sub]
    show _ * (0 : EReal) = 0
    simp
  · rw [exp2_pos, exp2_pos, exp2_pos, ← EReal.coe_mul, ← Real.rpow_add (by norm_num)]
    congr 2
    ring

/-- A nonnegative real factor goes into a finite sum. -/
theorem mul_sum_real {ι : Type*} (s : Finset ι) (f : ι → EReal) (c : ℝ) (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (by simp), ih]

/-- What a row holds after its first `n` keys: the maximum `μ` is real (or nothing was seen yet), and the two sums are over the keys seen, each weighted by
    the power of two of its score less `μ`. -/
structure Seen (S : ℕ → EReal) (V : ℕ → Fin 128 → EReal) (n : ℕ) (μ : EReal) (l a : Fin 128 → EReal) : Prop where
  low : Low μ
  start : μ = ⊥ → n = 0
  sum : ∀ j, l j = ∑ k ∈ Finset.range n, Ideal.exp2 (S k - μ)
  acc : ∀ j, a j = ∑ k ∈ Finset.range n, Ideal.exp2 (S k - μ) * V k j

/-- Nothing seen. -/
theorem seen_zero (S : ℕ → EReal) (V : ℕ → Fin 128 → EReal) : Seen S V 0 ⊥ (fun _ => 0) (fun _ => 0) :=
  ⟨.inl rfl, fun _ => rfl, fun _ => by simp, fun _ => by simp⟩

/-- One more block of keys, at least one of them with a real score. -/
theorem Seen.step {S : ℕ → EReal} {V : ℕ → Fin 128 → EReal} {n : ℕ} {μ : EReal} {l a : Fin 128 → EReal} (h : Seen S V n μ l a)
    (hS : ∀ k, Low (S k)) (x : Fin 512) (r : ℝ) (hr : S (n + x.val) = r)
    (ν : EReal) (hν : ν = max μ (Finset.univ.fold max ⊥ fun x : Fin 512 => S (n + x.val))) :
    Seen S V (n + 512) ν
      (fun j => Ideal.exp2 (μ - ν) * l j + ∑ x : Fin 512, Ideal.exp2 (S (n + x.val) - ν) * 1)
      (fun j => Ideal.exp2 (μ - ν) * a j + ∑ x : Fin 512, Ideal.exp2 (S (n + x.val) - ν) * V (n + x.val) j) := by
  obtain ⟨ρ, hρ⟩ : ∃ ρ : ℝ, ν = ρ := by
    rw [hν]
    exact real_max h.low (real_foldmax _ _ (fun _ => hS _) x (Finset.mem_univ _) r hr)
  clear hν
  subst hρ
  obtain ⟨c, hc, ec⟩ := exp2_low h.low ρ
  have sh : ∀ k ∈ Finset.range n, Ideal.exp2 (μ - ρ) * Ideal.exp2 (S k - μ) = Ideal.exp2 (S k - ρ) := by
    intro k hk
    refine exp2_shift (hS k) h.low ρ fun e => ?_
    rw [h.start e] at hk
    simp at hk
  refine ⟨.inr ⟨ρ, rfl⟩, fun e => by simp at e, fun j => ?_, fun j => ?_⟩
  · show _ = _
    rw [h.sum j, ec, mul_sum_real _ _ c hc, ← ec, Finset.sum_congr rfl sh, Finset.sum_range_add, Finset.sum_range (n := 512)]
    simp only [mul_one]
  · show _ = _
    rw [h.acc j, ec, mul_sum_real _ _ c hc, ← ec, Finset.sum_range_add, Finset.sum_range (n := 512)]
    refine congrArg (· + _) (Finset.sum_congr rfl fun k hk => ?_)
    rw [← mul_assoc, sh k hk]

/-- The sum of real numbers is real. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Dividing by a positive real number. -/
theorem div_pos (x : EReal) (r : ℝ) (hr : 0 < r) : Ideal.div x r = x * ((r⁻¹ : ℝ) : EReal) := by
  rw [Ideal.div, if_neg (by exact_mod_cast hr.ne'), EReal.coe_inv]

/-- The quotient of what a row holds after all the keys it may see is the softmax-weighted sum of the values over all keys, the others weighing nothing. -/
theorem Seen.final {S : ℕ → EReal} {V : ℕ → Fin 128 → EReal} {n : ℕ} {μ : EReal} {l a : Fin 128 → EReal} (h : Seen S V n μ l a) (hS : ∀ k, Low (S k))
    (hn : n ≤ 8192) (k0 : ℕ) (hk0 : k0 < n) (r0 : ℝ) (hr0 : S k0 = r0)
    (T : ℕ → EReal) (hT : ∀ k, n ≤ k → T k = ⊥) (hT0 : ∀ k, k < n → S k = ⊥ → T k = ⊥)
    (hT1 : ∀ k, k < n → ∀ s : ℝ, S k = s → T k = ((s * Real.log 2 : ℝ) : EReal)) (M : EReal) (hM : M = Finset.univ.fold max ⊥ fun k : Fin 8192 => T k.val)
    (j : Fin 128) :
    Ideal.div (a j) (l j) = ∑ k : Fin 8192, V k.val j * Ideal.div (Ideal.exp (T k.val - M)) (∑ k : Fin 8192, Ideal.exp (T k.val - M)) := by
  obtain ⟨m, rfl⟩ : ∃ m : ℝ, μ = m := by
    rcases h.low with e | e
    · exact absurd (h.start e) (by omega)
    · exact e
  have lowT : ∀ k : Fin 8192, Low (T k.val) := by
    intro k
    by_cases hk : k.val < n
    · rcases hS k.val with e | ⟨s, e⟩
      · exact .inl (hT0 _ hk e)
      · exact .inr ⟨_, hT1 _ hk s e⟩
    · exact .inl (hT _ (by omega))
  obtain ⟨M', rfl⟩ : ∃ x : ℝ, M = x := by
    rw [hM]
    exact real_foldmax _ _ lowT ⟨k0, by omega⟩ (Finset.mem_univ _) _ (hT1 _ hk0 _ hr0)
  clear hM
  choose w hw0 hw using fun k => exp2_low (hS k) m
  have hwk0 : 0 < w k0 := by
    have := hw k0
    rw [hr0, exp2_pos] at this
    have e : (2 : ℝ) ^ (r0 - m) = w k0 := by exact_mod_cast this
    rw [← e]
    positivity
  let C : ℝ := Real.exp (m * Real.log 2 - M')
  have hC : 0 < C := Real.exp_pos _
  have hE : ∀ k, Ideal.exp (T k - M') = (((if k < n then C * w k else 0) : ℝ) : EReal) := by
    intro k
    split_ifs with hk
    · rcases hS k with e | ⟨s, e⟩
      · have e2 := hw k
        rw [e, EReal.bot_sub] at e2
        have e3 : w k = 0 := by
          have : (0 : EReal) = w k := e2
          exact_mod_cast this.symm
        rw [hT0 k hk e, e3, EReal.bot_sub]
        show (0 : EReal) = _
        simp
      · have e2 := hw k
        rw [e, exp2_pos] at e2
        have e3 : (2 : ℝ) ^ (s - m) = w k := by exact_mod_cast e2
        rw [hT1 k hk s e, ← EReal.coe_sub, ← e3]
        show ((Real.exp (s * Real.log 2 - M') : ℝ) : EReal) = _
        rw [Real.rpow_def_of_pos (by norm_num), ← Real.exp_add]
        congr 2
        ring
    · rw [hT k (by omega), EReal.bot_sub]
      show (0 : EReal) = _
      simp
  have hl : l j = ((∑ k ∈ Finset.range n, w k : ℝ) : EReal) := by
    rw [h.sum j, ← sum_coe]
    exact Finset.sum_congr rfl fun k _ => hw k
  have hpos : 0 < ∑ k ∈ Finset.range n, w k :=
    Finset.sum_pos' (fun k _ => hw0 k) ⟨k0, Finset.mem_range.2 hk0, hwk0⟩
  have cut : ∀ {A : Type} [AddCommMonoid A] (f : ℕ → A), (∀ k, n ≤ k → f k = 0) → (∑ k : Fin 8192, f k.val) = ∑ k ∈ Finset.range n, f k := by
    intro A _ f hf
    rw [← Finset.sum_range (n := 8192)]
    refine (Finset.sum_subset (Finset.range_mono hn) fun k _ hk => hf k ?_).symm
    simpa using hk
  have hL : (∑ k : Fin 8192, Ideal.exp (T k.val - M')) = ((C * ∑ k ∈ Finset.range n, w k : ℝ) : EReal) := by
    rw [Finset.sum_congr rfl fun k _ => hE k.val, sum_coe, cut (fun k => if k < n then C * w k else 0) (fun k hk => if_neg (by omega)), Finset.mul_sum]
    refine congrArg _ (Finset.sum_congr rfl fun k hk => if_pos (Finset.mem_range.1 hk))
  rw [hL, hl, div_pos _ _ hpos, h.acc j]
  let g : ℕ → EReal := fun k => if k < n then (((∑ k ∈ Finset.range n, w k)⁻¹ : ℝ) : EReal) * (Ideal.exp2 (S k - m) * V k j) else 0
  have g0 : ∀ k, n ≤ k → g k = 0 := fun k hk => if_neg (by omega)
  have g1 : ∀ k, k < n → g k = (((∑ k ∈ Finset.range n, w k)⁻¹ : ℝ) : EReal) * (Ideal.exp2 (S k - m) * V k j) := fun k hk => if_pos hk
  have body : ∀ k : ℕ, V k j * Ideal.div (Ideal.exp (T k - M')) ((C * ∑ k ∈ Finset.range n, w k : ℝ) : EReal) = g k := by
    intro k
    rw [div_pos _ _ (mul_pos hC hpos), hE]
    by_cases hk : k < n
    · rw [g1 k hk, if_pos hk, ← EReal.coe_mul, hw, ← mul_assoc, ← EReal.coe_mul, mul_comm]
      have e : C * w k * (C * ∑ k ∈ Finset.range n, w k)⁻¹ = (∑ k ∈ Finset.range n, w k)⁻¹ * w k := by
        rw [mul_inv, mul_comm C (w k), mul_assoc, mul_inv_cancel_left₀ hC.ne', mul_comm]
      rw [e]
    · rw [g0 k (by omega), if_neg hk]
      simp
  simp only [body]
  rw [cut g g0, mul_comm, mul_sum_real _ _ _ (by positivity)]
  exact Finset.sum_congr rfl fun k hk => (g1 k (Finset.mem_range.1 hk)).symm

end Cert.Attn
-- ==== Proof.Rows.lean ====
module

public import proofs.«01_k».proof.Proof.Blocks
public import proofs.«01_k».proof.Proof.Soft

@[expose] public section

set_option maxRecDepth 16384

noncomputable section

namespace Cert.Attn

open Cert.KernelIdeal Cert.KernelIdeal.Gen
open Idealize.ShloMosaic
open Idealize.ShloMosaic.TcCoe Idealize.ShloMosaic.Tactic

variable (m : (ℓ : Loc nD τ sig) → Buf (Elt Ideal) ℓ) (ρ : Dev nD → PrngReg) (c : Dev nD)

/-- The product of the query at position `R` with the key at position `K`, for head `h` of batch `b`. -/
def dotS (b : Fin 4) (h : Fin 16) (R K : Fin 8192) : EReal :=
  (∑ x : Fin 128, aQ m c (ix4 h b R ⟨x.val, by omega⟩) * aK m c (ix4 h b K x))
    + ∑ x : Fin 128, aQ m c (ix4 h b R ⟨128 + x.val, by omega⟩) * aP m c (ix3 b K x)

/-- The score of key `k` for the query at position `R`: the least value beyond the query's chunk. -/
def keyS (b : Fin 4) (h : Fin 16) (R : Fin 8192) (k : ℕ) : EReal :=
  if hk : k < 8192 then (if k / 64 ≤ R.val / 64 then dotS m c b h R ⟨k, hk⟩ else ⊥) else ⊥

/-- The value at key `k`. -/
def keyV (b : Fin 4) (h : Fin 16) (k : ℕ) (j : Fin 128) : EReal :=
  if hk : k < 8192 then aV m c (ix4 h b ⟨k, hk⟩ j) else 0

/-- No query and no key is infinite. -/
structure Finite : Prop where
  q : ∀ i, ∃ r : ℝ, aQ m c i = r
  k : ∀ i, ∃ r : ℝ, aK m c i = r
  p : ∀ i, ∃ r : ℝ, aP m c i = r

/-- A sum of products of real numbers is real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [← sum_coe]
  exact Finset.sum_congr rfl fun i _ => by rw [ha, hb, EReal.coe_mul]

variable {m c}

/-- A product of finite rows is real. -/
theorem Finite.dot (hf : Finite m c) (b : Fin 4) (h : Fin 16) (R K : Fin 8192) : ∃ r : ℝ, dotS m c b h R K = r := by
  obtain ⟨x, hx⟩ := sum_mul_real (fun x : Fin 128 => aQ m c (ix4 h b R ⟨x.val, by omega⟩)) (fun x => aK m c (ix4 h b K x)) (fun _ => hf.q _) fun _ => hf.k _
  obtain ⟨y, hy⟩ := sum_mul_real (fun x : Fin 128 => aQ m c (ix4 h b R ⟨128 + x.val, by omega⟩)) (fun x => aP m c (ix3 b K x)) (fun _ => hf.q _) fun _ => hf.p _
  exact ⟨x + y, by rw [dotS, hx, hy, EReal.coe_add]⟩

/-- Every score is real or the least value. -/
theorem Finite.low (hf : Finite m c) (b : Fin 4) (h : Fin 16) (R : Fin 8192) (k : ℕ) : Low (keyS m c b h R k) := by
  rw [keyS]
  split_ifs
  · exact .inr (hf.dot _ _ _ _)
  · exact .inl rfl
  · exact .inl rfl

/-- A key in the query's chunk or before has a real score. -/
theorem Finite.real (hf : Finite m c) (b : Fin 4) (h : Fin 16) (R : Fin 8192) (k : ℕ) (hk : k < 8192) (hR : k / 64 ≤ R.val / 64) :
    ∃ r : ℝ, keyS m c b h R k = r := by
  rw [keyS, dif_pos hk, if_pos hR]
  exact hf.dot _ _ _ _

variable (m c)

/-- What a row of the scratches holds after its first `n` keys. -/
def RowOk (b : Fin 4) (h : Fin 16) (R : Fin 8192) (n : ℕ) (r : Fin 512) (mm ll aa : Vec Ideal S1x512x128 .f32) : Prop :=
  ∃ μ, (∀ j, mm (ix3 0 r j) = μ) ∧ Seen (keyS m c b h R) (keyV m c b h) n μ (fun j => ll (ix3 0 r j)) (fun j => aa (ix3 0 r j))

variable {m c}

/-- One more block of keys at a row. -/
theorem RowOk.step (hf : Finite m c) {b : Fin 4} {h : Fin 16} {R : Fin 8192} {n : ℕ} {r : Fin 512} {mm ll aa : Vec Ideal S1x512x128 .f32}
    (ok : RowOk m c b h R n r mm ll aa) (s : FVec Ideal S512x512 .f32) (v : Vec Ideal S1x1x512x128 .bf16)
    (hs : ∀ k : Fin 512, s (ix2 r k) = keyS m c b h R (n + k.val)) (hv : ∀ (k : Fin 512) j, v (ix4 0 0 k j) = keyV m c b h (n + k.val) j)
    (hn : n < 8192) (hR : n / 64 ≤ R.val / 64) :
    RowOk m c b h R (n + 512) r (stM s mm) (stL s v mm ll) (stA s v mm aa) := by
  obtain ⟨μ, hμ, seen⟩ := ok
  obtain ⟨x, hx⟩ := hf.real b h R n hn hR
  have hN : ∀ j : Fin 128, newM s mm (ix2 r j) = max μ (Finset.univ.fold max ⊥ fun x : Fin 512 => keyS m c b h R (n + x.val)) := by
    intro j
    rw [newM_at, hμ]
    simp only [hs]
  refine ⟨_, fun j => (stM_at s mm r j).trans (hN j), ?_⟩
  have st := seen.step (fun k => hf.low b h R k) ⟨0, by omega⟩ x hx _ rfl
  convert st using 2
  · rw [stL_at, carry_at, hN, hμ, weigh_at s mm v r _ _ hN]
    refine congrArg _ (Finset.sum_congr rfl fun k _ => ?_)
    rw [dif_neg (by simp), hs]
  · rename_i j
    rw [stA_at, carry_at, hN, hμ, weigh_at s mm v r _ _ hN]
    refine congrArg _ (Finset.sum_congr rfl fun k _ => ?_)
    rw [dif_pos j.isLt, hs, hv]

variable (m c) in
/-- A row of freshly wiped scratches. -/
theorem rowOk_zero (b : Fin 4) (h : Fin 16) (R : Fin 8192) (r : Fin 512) : RowOk m c b h R 0 r (fun _ => ⊥) (fun _ => 0) (fun _ => 0) :=
  ⟨⊥, fun _ => rfl, seen_zero _ _⟩

variable (m c) (t : Fin (cfgA 0).N)

/-- A head's scores at a point are the products of the point's queries and keys. -/
theorem scT_at (h : ℕ) (hh : h < 16) (r k : Fin 512) : scT m ρ c t h hh (ix2 r k) = dotS m c (bT t) ⟨h, hh⟩ (qT t r) (kT t k) := by
  rw [scT, sc_at, dotS]
  simp only [iblk0, iblk1, iblk2]

/-- Below the diagonal every key is kept. -/
theorem scT_below (h : ℕ) (hh : h < 16) (r k : Fin 512) (hlt : kiN (t.val % 136) < qiN (t.val % 136)) :
    scT m ρ c t h hh (ix2 r k) = keyS m c (bT t) ⟨h, hh⟩ (qT t r) (kiN (t.val % 136) * 512 + k.val) := by
  have e : kiN (t.val % 136) * 512 + k.val = (kT t k).val := rfl
  have e2 : (qT t r).val = qiN (t.val % 136) * 512 + r.val := rfl
  rw [scT_at, keyS, dif_pos (e ▸ (kT t k).isLt), if_pos (by rw [e2]; omega)]
  rfl

/-- On the diagonal the keys beyond the query's chunk are masked. -/
theorem scT_diag (h : ℕ) (hh : h < 16) (r k : Fin 512) (heq : kiN (t.val % 136) = qiN (t.val % 136)) :
    hide (scT m ρ c t h hh) (ix2 r k) = keyS m c (bT t) ⟨h, hh⟩ (qT t r) (kiN (t.val % 136) * 512 + k.val) := by
  have e : kiN (t.val % 136) * 512 + k.val = (kT t k).val := rfl
  have e2 : (qT t r).val = qiN (t.val % 136) * 512 + r.val := rfl
  rw [hide_at, scT_at, keyS, dif_pos (e ▸ (kT t k).isLt)]
  have : (k.val / 64 ≤ r.val / 64) ↔ ((kiN (t.val % 136) * 512 + k.val) / 64 ≤ (qT t r).val / 64) := by
    rw [e2, heq]
    omega
  simp only [this]
  rfl

/-- A head's values at a point. -/
theorem vT_at (h : ℕ) (hh : h < 16) (k : Fin 512) (j : Fin 128) :
    vT m ρ c t h hh (ix4 0 0 k j) = keyV m c (bT t) ⟨h, hh⟩ (kiN (t.val % 136) * 512 + k.val) j := by
  have e : kiN (t.val % 136) * 512 + k.val = (kT t k).val := rfl
  rw [vT, rdH_at, iblk3, keyV, dif_pos (e ▸ (kT t k).isLt)]
  rfl

/-- What the scratches hold of a head's row after a point: the sums over the keys up to the end of the point's key block. -/
def Held (h : ℕ) (hh : h < 16) (r : Fin 512) (s : St c) : Prop :=
  RowOk m c (bT t) ⟨h, hh⟩ (qT t r) (kiN (t.val % 136) * 512 + 512) r (stm c s h hh) (stl c s h hh) (sta c s h hh)

/-- A point leaves that, if the point before left the sums up to its own key block (unless that block is the first). -/
theorem held_step (hf : Finite m c) (h : ℕ) (hh : h < 16) (r : Fin 512) (prev : St c)
    (hp : kiN (t.val % 136) ≠ 0 → RowOk m c (bT t) ⟨h, hh⟩ (qT t r) (kiN (t.val % 136) * 512) r (stm c prev h hh) (stl c prev h hh) (sta c prev h hh)) :
    Held m c t h hh r (step0 0 m ρ c t prev) := by
  have hle := pair_le ⟨t.val % 136, Nat.mod_lt _ (by omega)⟩
  simp only at hle
  obtain ⟨p0, p1, -⟩ := paths t
  have hn : kiN (t.val % 136) * 512 < 8192 := by omega
  have hR : kiN (t.val % 136) * 512 / 64 ≤ (qT t r).val / 64 := by
    have e2 : (qT t r).val = qiN (t.val % 136) * 512 + r.val := rfl
    rw [e2]
    omega
  have z : kiN (t.val % 136) = 0 → RowOk m c (bT t) ⟨h, hh⟩ (qT t r) (kiN (t.val % 136) * 512) r (fun _ => ⊥) (fun _ => 0) (fun _ => 0) := by
    intro e
    rw [e]
    exact rowOk_zero m c _ _ _ _
  by_cases k0 : kiN (t.val % 136) = 0
  · by_cases k1 : kiN (t.val % 136) < qiN (t.val % 136)
    · obtain ⟨e1, e2, e3⟩ := step_B m ρ c t prev (p0.2 k0) (p1.2 k1) h hh
      rw [Held, e1, e2, e3]
      exact (z k0).step hf _ _ (fun k => scT_below m ρ c t h hh r k k1) (fun k j => vT_at m ρ c t h hh k j) hn hR
    · obtain ⟨e1, e2, e3⟩ := step_A m ρ c t prev (p0.2 k0) (fun q => k1 (p1.1 q)) h hh
      rw [Held, e1, e2, e3]
      exact (z k0).step hf _ _ (fun k => scT_diag m ρ c t h hh r k (by omega)) (fun k j => vT_at m ρ c t h hh k j) hn hR
  · by_cases k1 : kiN (t.val % 136) < qiN (t.val % 136)
    · obtain ⟨e1, e2, e3⟩ := step_D m ρ c t prev (fun q => k0 (p0.1 q)) (p1.2 k1) h hh
      rw [Held, e1, e2, e3]
      exact (hp k0).step hf _ _ (fun k => scT_below m ρ c t h hh r k k1) (fun k j => vT_at m ρ c t h hh k j) hn hR
    · obtain ⟨e1, e2, e3⟩ := step_C m ρ c t prev (fun q => k0 (p0.1 q)) (fun q => k1 (p1.1 q)) h hh
      rw [Held, e1, e2, e3]
      exact (hp k0).step hf _ _ (fun k => scT_diag m ρ c t h hh r k (by omega)) (fun k j => vT_at m ρ c t h hh k j) hn hR

/-- Every point leaves that. -/
theorem held (hf : Finite m c) (n : ℕ) : ∀ (hn : n < (cfgA 0).N) (h : ℕ) (hh : h < 16) (r : Fin 512),
    Held m c ⟨n, hn⟩ h hh r (traj0 0 m ρ c n hn) := by
  induction n with
  | zero =>
    intro hn h hh r
    exact held_step m ρ c ⟨0, hn⟩ hf h hh r _ fun e => absurd (show kiN 0 = 0 by decide) e
  | succ n ih =>
    intro hn h hh r
    refine held_step m ρ c ⟨n + 1, hn⟩ hf h hh r _ fun e => ?_
    obtain ⟨g0, g1, g2⟩ := pair_pred ⟨(n + 1) % 136, Nat.mod_lt _ (by omega)⟩ e
    simp only at g0 g1 g2
    have em : n % 136 = (n + 1) % 136 - 1 := by omega
    have old := ih (Nat.lt_of_succ_lt hn) h hh r
    have eb : bT ⟨n, Nat.lt_of_succ_lt hn⟩ = bT ⟨n + 1, hn⟩ := Fin.ext (by
      show n / 136 = (n + 1) / 136
      omega)
    have eq : qT ⟨n, Nat.lt_of_succ_lt hn⟩ r = qT ⟨n + 1, hn⟩ r := Fin.ext (by
      show qiN (n % 136) * 512 + r.val = qiN ((n + 1) % 136) * 512 + r.val
      rw [em, g1])
    have ek : kiN (n % 136) * 512 + 512 = kiN ((n + 1) % 136) * 512 := by
      rw [em]
      omega
    rw [Held, eb, eq] at old
    exact ek ▸ old

/-- The softmax-weighted value of the query at position `R`, for head `h` of batch `b`: each score times log 2 through the exponential function,
    the least value where the key is beyond the query's chunk. -/
def expS (b : Fin 4) (h : Fin 16) (R : Fin 8192) (k : ℕ) : EReal :=
  if hk : k < 8192 then (if k / 64 ≤ R.val / 64 then dotS m c b h R ⟨k, hk⟩ * ((Real.log 2 : ℝ) : EReal) else ⊥) else ⊥

/-- The attention at a query, a head and a lane. -/
def attn (b : Fin 4) (h : Fin 16) (R : Fin 8192) (j : Fin 128) : EReal :=
  ∑ k : Fin 8192, keyV m c b h k.val j
    * Ideal.div (Ideal.exp (expS m c b h R k.val - Finset.univ.fold max ⊥ fun k : Fin 8192 => expS m c b h R k.val))
        (∑ k : Fin 8192, Ideal.exp (expS m c b h R k.val - Finset.univ.fold max ⊥ fun k : Fin 8192 => expS m c b h R k.val))

/-- At a point on the diagonal the output's block holds the attention of the point's queries. -/
theorem out_diag (hf : Finite m c) (hd : kiN (t.val % 136) = qiN (t.val % 136)) (h : ℕ) (hh : h < 16) (r : Fin 512) (j : Fin 128) :
    (traj0 0 m ρ c t.val t.isLt).1 (ix3 0 r ⟨h * 128 + j.val, by omega⟩) = attn m c (bT t) ⟨h, hh⟩ (qT t r) j := by
  have hl := held m ρ c hf t.val t.isLt h hh r
  obtain ⟨p0, p1, -⟩ := paths t
  have q1 : ¬ P0_1 0 t := fun q => by
    have := p1.1 q
    omega
  have hle := pair_le ⟨t.val % 136, Nat.mod_lt _ (by omega)⟩
  simp only at hle
  have out : (traj0 0 m ρ c t.val t.isLt).1 (ix3 0 r ⟨h * 128 + j.val, by omega⟩)
      = quot (sta c (traj0 0 m ρ c t.val t.isLt) h hh) (stl c (traj0 0 m ρ c t.val t.isLt) h hh) (ix3 0 r j) := by
    rw [traj0_eq]
    by_cases q0 : P0_0 0 t
    · exact out_A m ρ c t _ q0 q1 h hh r j
    · exact out_C m ρ c t _ q0 q1 h hh r j
  obtain ⟨μ, -, seen⟩ := hl
  have e2 : (qT t r).val = qiN (t.val % 136) * 512 + r.val := rfl
  obtain ⟨x, hx⟩ := hf.real (bT t) ⟨h, hh⟩ (qT t r) 0 (by omega) (by omega)
  rw [out, quot_at]
  refine seen.final (fun k => hf.low _ _ _ k) (by show kiN (t.val % 136) * 512 + 512 ≤ 8192; omega) 0 (by omega) x hx
    (expS m c (bT t) ⟨h, hh⟩ (qT t r)) ?_ ?_ ?_ _ rfl j
  · intro k hk
    replace hk : kiN (t.val % 136) * 512 + 512 ≤ k := hk
    rw [expS]
    split_ifs with a b
    · omega
    · rfl
    · rfl
  · intro k _ hk
    rw [keyS] at hk
    rw [expS]
    split_ifs at hk ⊢ with a b
    · obtain ⟨y, hy⟩ := hf.dot (bT t) ⟨h, hh⟩ (qT t r) ⟨k, a⟩
      rw [hy] at hk
      simp at hk
    · rfl
    · rfl
  · intro k _ y hk
    rw [keyS] at hk
    rw [expS]
    split_ifs at hk ⊢ with a b
    · rw [hk, EReal.coe_mul]
    · simp at hk
    · simp at hk

end Cert.Attn
-- ==== Proof.Ref.lean ====
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Attn.Ref

open Cert.ReferenceIdeal Cert.ReferenceIdeal.Gen
open Idealize.ShloMosaic
open Idealize.ShloMosaic.TcCoe Idealize.ShloMosaic.Tactic

/-- The chunk of every position. -/
def chunks : IVec S8192 32 := Host.divsi (iotaInDim S8192 32 0) (broadcastInDim S8192 ![] bcast_S_S8192 (constantI S_ 32 64#32))

/-- Where a key's chunk is not beyond the query's. -/
def mask : IVec S8192x8192 1 :=
  cmpi .sle (broadcastInDim S8192x8192 ![0, 1] bcast_S1x8192_S8192x8192_0_1 (broadcastInDim S1x8192 ![1] bcast_S8192_S1x8192_1 chunks))
    (broadcastInDim S8192x8192 ![0, 1] bcast_S8192x1_S8192x8192_0_1 (broadcastInDim S8192x1 ![0] bcast_S8192_S8192x1_0 chunks))

variable (Q : FVec Ideal S16x4x8192x256 .bf16) (K : FVec Ideal S16x4x8192x128 .bf16) (P : FVec Ideal S4x8192x128 .bf16) (V : FVec Ideal S16x4x8192x128 .bf16)

/-- The products of queries and keys. -/
def dots : FVec Ideal S16x4x8192x8192 .f32 :=
  addf (Host.dotGeneral dot_S16x4x8192x128_S16x4x8192x128_S16x4x8192x8192_3_3_2_2_01_01 none (extractStridedSlice S16x4x8192x128 ![0, 0, 0, 0] Q slices_S16x4x8192x256_S16x4x8192x128_0_0_0_0) K)
    (transpose S16x4x8192x8192 [2, 0, 3, 1] (Host.dotGeneral dot_S4x8192x128_S16x4x8192x128_S4x8192x16x8192_2_3_1_02_0_1 none P (extractStridedSlice S16x4x8192x128 ![0, 0, 0, 128] Q slices_S16x4x8192x256_S16x4x8192x128_0_0_0_128)) transposes_S4x8192x16x8192_S16x4x8192x8192_2_0_3_1)

/-- The masked scores. -/
def scores : FVec Ideal S16x4x8192x8192 .f32 :=
  select (broadcastInDim S16x4x8192x8192 ![0, 1, 2, 3] bcast_S1x1x8192x8192_S16x4x8192x8192_0_1_2_3 (broadcastInDim S1x1x8192x8192 ![2, 3] bcast_S8192x8192_S1x1x8192x8192_2_3 mask))
    (mulf (dots Q K P) (broadcastInDim S16x4x8192x8192 ![] bcast_S_S16x4x8192x8192 (Host.log (constant S_ .f32 0x40000000#32))))
    (broadcastInDim S16x4x8192x8192 ![] bcast_S_S16x4x8192x8192 (id (constant S_ .f32 0xFF800000#32)))

/-- Each query's greatest score. -/
def tops : FVec Ideal S16x4x8192 .f32 :=
  maximumf (broadcastInDim S16x4x8192 ![] bcast_S_S16x4x8192 (constant S_ .f32 0xFF800000#32))
    (Host.reduce FloatOps.maximumf (scores Q K P) (constant S_ .f32 0xFF800000#32) reducesTo_S16x4x8192x8192_S16x4x8192_d3 h_S_)

/-- The exponentials. -/
def exps : FVec Ideal S16x4x8192x8192 .f32 :=
  Host.exp (subf (scores Q K P) (broadcastInDim S16x4x8192x8192 ![0, 1, 2, 3] bcast_S16x4x8192x1_S16x4x8192x8192_0_1_2_3 (broadcastInDim S16x4x8192x1 ![0, 1, 2] bcast_S16x4x8192_S16x4x8192x1_0_1_2 (tops Q K P))))

/-- Their sums. -/
def sums : FVec Ideal S16x4x8192 .f32 :=
  Host.reduceAdd (exps Q K P) (constant S_ .f32 0x00000000#32) reducesTo_S16x4x8192x8192_S16x4x8192_d3 h_S_

/-- The attention's weights. -/
def probs : FVec Ideal S16x4x8192x8192 .bf16 :=
  truncf .bf16 (Host.divf (exps Q K P) (broadcastInDim S16x4x8192x8192 ![0, 1, 2, 3] bcast_S16x4x8192x1_S16x4x8192x8192_0_1_2_3 (broadcastInDim S16x4x8192x1 ![0, 1, 2] bcast_S16x4x8192_S16x4x8192x1_0_1_2 (sums Q K P)))) bitsLt_bf16_f32

/-- The weighted values. -/
def mix : FVec Ideal S4x16x128x8192 .f32 :=
  Host.dotGeneral dot_S16x4x8192x128_S16x4x8192x8192_S4x16x128x8192_2_3_3_2_10_10 none V (probs Q K P)

/-- The attention. -/
def whole : FVec Ideal S4x8192x2048 .bf16 :=
  shapeCast _ (truncf .bf16 (transpose S4x8192x16x128 [0, 3, 1, 2] (mix Q K P V) transposes_S4x16x128x8192_S4x8192x16x128_0_3_1_2) bitsLt_bf16_f32) shapeCasts_S4x8192x16x128_S4x8192x2048

/-- The reference's first result is that attention. -/
theorem res_eq (m : (ℓ : Loc nD τ sig) → Buf (Elt Ideal) ℓ) (c : Dev nD) :
    Value.res_main_v34 m c = whole (m ((c.tc : Thread nD τ).loc main_arg2)) (m ((c.tc : Thread nD τ).loc main_arg3)) (m ((c.tc : Thread nD τ).loc main_arg4)) (m ((c.tc : Thread nD τ).loc main_arg5)) := rfl

/-- A position's chunk. -/
theorem chunk_eq : ∀ k : Fin 8192, IntOp.divsi .host (BitVec.ofNat 32 k.val) 64#32 = BitVec.ofNat 32 (k.val / 64) := by
  decide +kernel

/-- Comparing two chunk numbers. -/
theorem chunk_cmp : ∀ a b : Fin 128, IntOp.cmpi CmpIPredicate.sle (BitVec.ofNat 32 a.val) (BitVec.ofNat 32 b.val) = if a.val ≤ b.val then 1#1 else 0#1 := by
  decide +kernel

/-- The mask at a query and a key. -/
theorem mask_at (R k : Fin 8192) : mask (ix2 R k) = if k.val / 64 ≤ R.val / 64 then 1#1 else 0#1 := by
  pointwise [mask, chunks]
  rw [chunk_eq, chunk_eq]
  exact chunk_cmp ⟨k.val / 64, by omega⟩ ⟨R.val / 64, by omega⟩

/-- The product of a query and a key. -/
theorem dots_at (h : Fin 16) (b : Fin 4) (R k : Fin 8192) :
    dots Q K P (ix4 h b R k) = (∑ x : Fin 128, Q (ix4 h b R ⟨x.val, by omega⟩) * K (ix4 h b k x))
      + ∑ x : Fin 128, Q (ix4 h b R ⟨128 + x.val, by omega⟩) * P (ix3 b k x) := by
  pointwise [dots]
  congr 1
  exact Finset.sum_congr rfl fun x _ => mul_comm _ _

/-- The least value. -/
theorem bottom : Ideal.ofBits .f32 0xFF800000#32 = ⊥ := by
  simp [Ideal.ofBits, Ideal.ieee]

/-- The logarithm of two. -/
theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    congr 1
    norm_num
  rw [e]
  show (if (2 : ℝ) ≤ 0 then (⊥ : EReal) else ((Real.log 2 : ℝ) : EReal)) = _
  rw [if_neg (by norm_num)]

/-- The masked score. -/
theorem scores_at (h : Fin 16) (b : Fin 4) (R k : Fin 8192) :
    scores Q K P (ix4 h b R k) = if k.val / 64 ≤ R.val / 64 then dots Q K P (ix4 h b R k) * ((Real.log 2 : ℝ) : EReal) else ⊥ := by
  pointwise [scores]
  rw [mask_at, log_two]
  split_ifs
  · rfl
  · exact bottom

/-- The maximum along the keys. -/
theorem most_at (x : FVec Ideal S16x4x8192x8192 .f32) (e : FVec Ideal S_ .f32) (h : Fin 16) (b : Fin 4) (R : Fin 8192) :
    Host.reduce FloatOps.maximumf x e reducesTo_S16x4x8192x8192_S16x4x8192_d3 h_S_ (ix3 h b R)
      = Finset.univ.fold FloatOps.maximumf (e (Shape.Idx.first h_S_)) fun k : Fin 8192 => x (ix4 h b R k) :=
  (Host.reduce_eq_fold FloatOps.maximumf x e reducesTo_S16x4x8192x8192_S16x4x8192_d3 h_S_ (ix3 h b R)).trans
    (Shape.ReducesTo.fold_fiber_r4_a3 reducesTo_S16x4x8192x8192_S16x4x8192_d3 (ix3 h b R) FloatOps.maximumf _ x)

/-- The greater of two vectors at an index. -/
theorem max_at (x y : FVec Ideal S16x4x8192 .f32) (i : S16x4x8192.Idx) : maximumf x y i = max (x i) (y i) := rfl

/-- The least value everywhere. -/
theorem low_at (i : S16x4x8192.Idx) :
    (broadcastInDim S16x4x8192 ![] bcast_S_S16x4x8192 (constant S_ .f32 0xFF800000#32 : FVec Ideal S_ .f32)) i = (⊥ : EReal) := bottom

/-- The least value, alone. -/
theorem low_first : (constant S_ .f32 0xFF800000#32 : FVec Ideal S_ .f32) (Shape.Idx.first h_S_) = (⊥ : EReal) := bottom

/-- The greatest of a list of values. -/
theorem fold_max (f : Fin 8192 → EReal) :
    Finset.univ.fold (FloatOps.maximumf (F := Ideal) (φ := .f32)) (⊥ : EReal) f = Finset.univ.fold max ⊥ f := by
  simp only [Ideal.maximumf_eq_max]

/-- The greatest score. -/
theorem tops_at (h : Fin 16) (b : Fin 4) (R : Fin 8192) :
    tops Q K P (ix3 h b R) = Finset.univ.fold max ⊥ fun k : Fin 8192 => scores Q K P (ix4 h b R k) := by
  unfold tops
  generalize scores Q K P = x
  refine (max_at _ _ _).trans ?_
  rw [low_at, most_at, low_first, fold_max]
  exact max_eq_right bot_le

/-- The exponential. -/
theorem exps_at (h : Fin 16) (b : Fin 4) (R k : Fin 8192) :
    exps Q K P (ix4 h b R k) = Ideal.exp (scores Q K P (ix4 h b R k) - tops Q K P (ix3 h b R)) := by
  pointwise [exps]

/-- The sum along the keys. -/
theorem sum_at (x : FVec Ideal S16x4x8192x8192 .f32) (h : Fin 16) (b : Fin 4) (R : Fin 8192) :
    Host.reduceAdd x (constant S_ .f32 0x00000000#32) reducesTo_S16x4x8192x8192_S16x4x8192_d3 h_S_ (ix3 h b R) = ∑ k : Fin 8192, x (ix4 h b R k) := by
  pointwise []

/-- The sum of the exponentials. -/
theorem sums_at (h : Fin 16) (b : Fin 4) (R : Fin 8192) :
    sums Q K P (ix3 h b R) = ∑ k : Fin 8192, exps Q K P (ix4 h b R k) :=
  sum_at (exps Q K P) h b R

/-- The attention at a query, a head and a lane. -/
theorem whole_at (h : Fin 16) (b : Fin 4) (R : Fin 8192) (j : Fin 128) :
    whole Q K P V (ix3 b R ⟨h.val * 128 + j.val, by omega⟩)
      = ∑ k : Fin 8192, V (ix4 h b k j) * Ideal.div (exps Q K P (ix4 h b R k)) (sums Q K P (ix3 h b R)) := by
  pointwise [whole, mix, probs]

end Cert.Attn.Ref
-- ==== Proof.Frames.lean ====
module

public import proofs.«01_k».proof.Proof.Tables
public import proofs.«01_k».proof.Proof.Gen.Kernel.Flash
public import proofs.«01_k».proof.Proof.Gen.KernelIdeal.Flash
public import proofs.«01_k».proof.Proof.Gen.ReferenceIdeal.Run
public import Idealize.ShloMosaic.Adequacy
public import Idealize.ShloMosaic.Init

@[expose] public section

set_option maxRecDepth 16384

noncomputable section

namespace Cert.Attn

open Idealize.ShloMosaic Idealize.ShloMosaic.TcCoe Idealize.SL.Sem

attribute [local instance] preFacts preFiniteFacts

/-- The kernel's tables hold the words the launch is written at. -/
theorem pinned_kernel (m : (ℓ : Loc Cert.Kernel.nD Cert.Kernel.τ Cert.Kernel.sig) → Buf (Elt Bits) ℓ) (h : Cert.Pre_Kernel m) :
    Cert.Kernel.Gen.Pinned 0 m := by
  refine ⟨fun c => ?_, fun c => ?_⟩
  · funext i
    refine ((tables _ _ _ _ _ _ _ _ _ (h c)).1 i).trans ?_
    revert i
    refine each_index ?_
    decide +kernel
  · funext i
    refine ((tables _ _ _ _ _ _ _ _ _ (h c)).2 i).trans ?_
    revert i
    refine each_index ?_
    decide +kernel

/-- The idealized kernel's tables hold those words too. -/
theorem pinned_of_tables (m : (ℓ : Loc Cert.KernelIdeal.nD Cert.KernelIdeal.τ Cert.KernelIdeal.sig) → Buf (Elt Ideal) ℓ)
    (h : ∀ c : Dev Cert.KernelIdeal.nD,
      (∀ i, m ((c : Thread Cert.KernelIdeal.nD Cert.KernelIdeal.τ).loc Cert.KernelIdeal.main_arg0) i = rowOf (i 0).val)
      ∧ ∀ i, m ((c : Thread Cert.KernelIdeal.nD Cert.KernelIdeal.τ).loc Cert.KernelIdeal.main_arg1) i = colOf (i 0).val) :
    Cert.KernelIdeal.Gen.Pinned 0 m := by
  refine ⟨fun c => ?_, fun c => ?_⟩
  · funext i
    refine ((h c).1 i).trans ?_
    revert i
    refine each_index ?_
    show ∀ k : Fin 136, rowOf k.val = Cert.KernelIdeal.Gen.pinT_0 0 (at136 k)
    decide +kernel
  · funext i
    refine ((h c).2 i).trans ?_
    revert i
    refine each_index ?_
    show ∀ k : Fin 136, colOf k.val = Cert.KernelIdeal.Gen.pinT_1 0 (at136 k)
    decide +kernel

/-- The frame of the kernel. -/
theorem frame_kernel : Cert.quiescent_Kernel (hKernel := Cert.Kernel.Gen.facts) (hPre_pinned := preFacts) :=
  fun m g h => Cert.Kernel.Gen.frame 0 m g (pinned_kernel m h)

/-- The frame of the idealized kernel. -/
theorem frame_ideal : Cert.quiescent_KernelIdeal (hKernelIdeal := Cert.KernelIdeal.Gen.facts) (hPre_pinned := preFacts) :=
  fun m g h => Cert.KernelIdeal.Gen.frame 0 m g (pinned_of_tables m fun c => tables _ _ _ _ _ _ _ _ _ (h c))

/-- The pinning from the precondition that bounds the arrays too. -/
theorem pinned_of_finite (m : (ℓ : Loc Cert.KernelIdeal.nD Cert.KernelIdeal.τ Cert.KernelIdeal.sig) → Buf (Elt Ideal) ℓ)
    (h : Cert.Pre_KernelIdeal_pinned_finite m) : Cert.KernelIdeal.Gen.Pinned 0 m :=
  pinned_of_tables m fun c => (tables_finite _ _ _ _ _ _ _ _ _ (h c)).1

/-- The frame of the idealized kernel under the precondition that bounds the arrays too. -/
theorem frame_ideal_finite : Cert.quiescent_KernelIdeal_pre_pinned_finite (hKernelIdeal := Cert.KernelIdeal.Gen.facts)
    (hPre_pinned_finite := preFiniteFacts) :=
  fun m g h => Cert.KernelIdeal.Gen.frame 0 m g (pinned_of_finite m h)

end Cert.Attn
-- ==== Proof.Value.lean ====
module

public import proofs.«01_k».proof.Proof.Rows
public import proofs.«01_k».proof.Proof.Ref
public import proofs.«01_k».proof.Proof.Frames

@[expose] public section

set_option maxRecDepth 16384

noncomputable section

namespace Cert.Attn

open Cert.KernelIdeal Cert.KernelIdeal.Gen
open Idealize.ShloMosaic
open Idealize.ShloMosaic.TcCoe Idealize.ShloMosaic.Tactic

variable (m : (ℓ : Loc nD τ sig) → Buf (Elt Ideal) ℓ) (ρ : Dev nD → PrngReg) (c : Dev nD)

/-- The reference's attention is the attention. -/
theorem ref_attn (b : Fin 4) (h : Fin 16) (R : Fin 8192) (j : Fin 128) :
    Ref.whole (aQ m c) (aK m c) (aP m c) (aV m c) (ix3 b R ⟨h.val * 128 + j.val, by omega⟩) = attn m c b h R j := by
  have es : ∀ k : Fin 8192, Ref.scores (aQ m c) (aK m c) (aP m c) (ix4 h b R k) = expS m c b h R k.val := by
    intro k
    rw [Ref.scores_at, Ref.dots_at, expS, dif_pos k.isLt]
    rfl
  have ee : ∀ k : Fin 8192, Ref.exps (aQ m c) (aK m c) (aP m c) (ix4 h b R k)
      = Ideal.exp (expS m c b h R k.val - Finset.univ.fold max ⊥ fun k : Fin 8192 => expS m c b h R k.val) := by
    intro k
    rw [Ref.exps_at, Ref.tops_at, es]
    simp only [es]
  rw [Ref.whole_at, Ref.sums_at, attn]
  refine Finset.sum_congr rfl fun k _ => ?_
  simp only [ee]
  rw [keyV, dif_pos k.isLt]

/-- Where an element of the output's block lies in the output. -/
theorem emb7 (t : Fin (cfgA 0).N) (r : Fin 512) (k : Fin 2048) :
    (((cfgA 0).win 7).blk t).view.emb (ix3 0 r k) = (ix3 (bT t) (qT t r) k : S4x8192x2048.Idx) := by
  have e := (places t).2.2.2.2
  blk_ext [e, bT, qT]

/-- An index of the output's block, by its row, head and lane. -/
theorem split7 (y : S1x512x2048.Idx) : ∃ (r : Fin 512) (h : Fin 16) (j : Fin 128), y = ix3 0 r ⟨h.val * 128 + j.val, by omega⟩ := by
  have l : (y 2).val < 2048 := (y 2).isLt
  have z : (y 0).val < 1 := (y 0).isLt
  refine ⟨y 1, ⟨(y 2).val / 128, by omega⟩, ⟨(y 2).val % 128, by omega⟩, funext fun a => ?_⟩
  match a with
  | ⟨0, _⟩ => exact Fin.ext (by show (y 0).val = 0; omega)
  | ⟨1, _⟩ => rfl
  | ⟨2, _⟩ => exact Fin.ext (by show (y 2).val = (y 2).val / 128 * 128 + (y 2).val % 128; omega)

/-- The output's array at the end is the reference's attention. -/
theorem out7 (hf : Finite m c) :
    (dats 0 m ρ 0 c).arrAt (7 : Fin 11) (cfgA 0).N = Ref.whole (aQ m c) (aK m c) (aP m c) (aV m c) := by
  refine (dats 0 m ρ 0 c).arrAt_eq_of_covers (7 : Fin 11) _ covers7 fun t hd y => ?_
  blk_simp
  rw [after0_7]
  obtain ⟨r, h, j, rfl⟩ := split7 y
  refine (out_diag m ρ c t hf ((paths t).2.2 hd) h.val h.isLt r j).trans ?_
  refine (ref_attn m c (bT t) h (qT t r) j).symm.trans ?_
  exact congrArg (Ref.whole (aQ m c) (aK m c) (aP m c) (aV m c)) (emb7 t r _).symm

/-- What every point leaves in the casts' blocks. -/
theorem casts (t : Fin (cfgA 0).N) (prev : St c) :
    (step0 0 m ρ c t prev).2.1 = iblk 0 m ρ c (4 : Fin 11) t ∧ (step0 0 m ρ c t prev).2.2.1 = iblk 0 m ρ c (5 : Fin 11) t
      ∧ (step0 0 m ρ c t prev).2.2.2.1 = iblk 0 m ρ c (6 : Fin 11) t := by
  by_cases q0 : P0_0 0 t
  · by_cases q1 : P0_1 0 t
    · exact ⟨cast_B8 m ρ c t prev q0 q1, cast_B9 m ρ c t prev q0 q1, cast_B10 m ρ c t prev q0 q1⟩
    · exact ⟨cast_A8 m ρ c t prev q0 q1, cast_A9 m ρ c t prev q0 q1, cast_A10 m ρ c t prev q0 q1⟩
  · by_cases q1 : P0_1 0 t
    · exact ⟨cast_D8 m ρ c t prev q0 q1, cast_D9 m ρ c t prev q0 q1, cast_D10 m ρ c t prev q0 q1⟩
    · exact ⟨cast_C8 m ρ c t prev q0 q1, cast_C9 m ρ c t prev q0 q1, cast_C10 m ρ c t prev q0 q1⟩

/-- The first half of a weight matrix of 32768 rows, cast. -/
def half7 (x : FVec Ideal Cert.ReferenceIdeal.S32768x7168 .f32) : FVec Ideal Cert.ReferenceIdeal.S16384x7168 .bf16 :=
  truncf .bf16 (extractStridedSlice Cert.ReferenceIdeal.S16384x7168 ![0, 0] x Cert.ReferenceIdeal.Gen.slices_S32768x7168_S16384x7168_0_0) Cert.ReferenceIdeal.Gen.bitsLt_bf16_f32

/-- The first half of a weight matrix of 114688 rows, cast. -/
def half2 (x : FVec Ideal Cert.ReferenceIdeal.S114688x2048 .f32) : FVec Ideal Cert.ReferenceIdeal.S57344x2048 .bf16 :=
  truncf .bf16 (extractStridedSlice Cert.ReferenceIdeal.S57344x2048 ![0, 0] x Cert.ReferenceIdeal.Gen.slices_S114688x2048_S57344x2048_0_0) Cert.ReferenceIdeal.Gen.bitsLt_bf16_f32

/-- That half at an index. -/
theorem half7_at (x : FVec Ideal Cert.ReferenceIdeal.S32768x7168 .f32) (a : Fin 16384) (b : Fin 7168) :
    half7 x (ix2 a b) = x (ix2 ⟨a.val, by omega⟩ b) := by
  pointwise [half7]

/-- That half at an index. -/
theorem half2_at (x : FVec Ideal Cert.ReferenceIdeal.S114688x2048 .f32) (a : Fin 57344) (b : Fin 2048) :
    half2 x (ix2 a b) = x (ix2 ⟨a.val, by omega⟩ b) := by
  pointwise [half2]

/-- Where the casts' blocks lie. -/
theorem rows8 : ∀ t : Fin (cfgA 0).N, ((cfgA 0).win 8).index t = ![((cfgA 0).win 8).index t 0, 0] ∧ ((cfgA 0).win 8).index t 0 < 512
    ∧ ((cfgA 0).win 9).index t = ![((cfgA 0).win 9).index t 0, 0] ∧ ((cfgA 0).win 9).index t 0 < 512
    ∧ ((cfgA 0).win 10).index t = ![((cfgA 0).win 10).index t 0, 0] ∧ ((cfgA 0).win 10).index t 0 < 448 := by
  decide +kernel

/-- Where an element of the first cast's block lies. -/
theorem emb8 (t : Fin (cfgA 0).N) (n : ℕ) (hn : n < 512) (e : ((cfgA 0).win 8).index t = ![n, 0]) (a : Fin 32) (b : Fin 7168) :
    (((cfgA 0).win 8).blk t).view.emb (ix2 a b) = (ix2 ⟨n * 32 + a.val, by omega⟩ b : Cert.ReferenceIdeal.S16384x7168.Idx) := by
  blk_ext [e]

/-- A block of the first weight matrix. -/
theorem iblk4 (t : Fin (cfgA 0).N) (n : ℕ) (hn : n < 512) (e : ((cfgA 0).win 4).index t = ![n, 0]) (a : Fin 32) (b : Fin 7168) :
    iblk 0 m ρ c (4 : Fin 11) t (ix2 a b) = m ((c.tc : Thread nD τ).loc main_arg6) (ix2 ⟨n * 32 + a.val, by omega⟩ b) := by
  blk_ext [iblk, e]

/-- The first cast's array at the end. -/
theorem out8 : (dats 0 m ρ 0 c).arrAt (8 : Fin 11) (cfgA 0).N = half7 (m ((c.tc : Thread nD τ).loc main_arg6)) := by
  refine (dats 0 m ρ 0 c).arrAt_eq_of_covers (8 : Fin 11) _ covers8 fun t hd y => ?_
  blk_simp
  rw [after0_8, traj0_eq, (casts m ρ c t _).1]
  have e := (places8 t).1
  obtain ⟨n, e8, l8⟩ : ∃ n, ((cfgA 0).win 8).index t = ![n, 0] ∧ n < 512 := ⟨_, (rows8 t).1, (rows8 t).2.1⟩
  rw [e8] at e
  obtain ⟨a, b, rfl⟩ : ∃ (a : Fin 32) (b : Fin 7168), y = (ix2 a b : S32x7168.Idx) := ⟨y 0, y 1, funext fun a => by
    match a with
    | ⟨0, _⟩ => rfl
    | ⟨1, _⟩ => rfl⟩
  refine (iblk4 m ρ c t n l8 e a b).trans ?_
  refine Eq.trans ?_ (congrArg (half7 (m ((c.tc : Thread nD τ).loc main_arg6))) (emb8 t n l8 e8 a b)).symm
  exact (half7_at (m ((c.tc : Thread nD τ).loc main_arg6)) ⟨n * 32 + a.val, by omega⟩ b).symm

/-- Where an element of the second cast's block lies. -/
theorem emb9 (t : Fin (cfgA 0).N) (n : ℕ) (hn : n < 512) (e : ((cfgA 0).win 9).index t = ![n, 0]) (a : Fin 32) (b : Fin 7168) :
    (((cfgA 0).win 9).blk t).view.emb (ix2 a b) = (ix2 ⟨n * 32 + a.val, by omega⟩ b : Cert.ReferenceIdeal.S16384x7168.Idx) := by
  blk_ext [e]

/-- A block of the second weight matrix. -/
theorem iblk5 (t : Fin (cfgA 0).N) (n : ℕ) (hn : n < 512) (e : ((cfgA 0).win 5).index t = ![n, 0]) (a : Fin 32) (b : Fin 7168) :
    iblk 0 m ρ c (5 : Fin 11) t (ix2 a b) = m ((c.tc : Thread nD τ).loc main_arg7) (ix2 ⟨n * 32 + a.val, by omega⟩ b) := by
  blk_ext [iblk, e]

/-- The second cast's array at the end. -/
theorem out9 : (dats 0 m ρ 0 c).arrAt (9 : Fin 11) (cfgA 0).N = half7 (m ((c.tc : Thread nD τ).loc main_arg7)) := by
  refine (dats 0 m ρ 0 c).arrAt_eq_of_covers (9 : Fin 11) _ covers9 fun t hd y => ?_
  blk_simp
  rw [after0_9, traj0_eq, (casts m ρ c t _).2.1]
  have e := (places8 t).2.1
  obtain ⟨n, e8, l8⟩ : ∃ n, ((cfgA 0).win 9).index t = ![n, 0] ∧ n < 512 := ⟨_, (rows8 t).2.2.1, (rows8 t).2.2.2.1⟩
  rw [e8] at e
  obtain ⟨a, b, rfl⟩ : ∃ (a : Fin 32) (b : Fin 7168), y = (ix2 a b : S32x7168.Idx) := ⟨y 0, y 1, funext fun a => by
    match a with
    | ⟨0, _⟩ => rfl
    | ⟨1, _⟩ => rfl⟩
  refine (iblk5 m ρ c t n l8 e a b).trans ?_
  refine Eq.trans ?_ (congrArg (half7 (m ((c.tc : Thread nD τ).loc main_arg7))) (emb9 t n l8 e8 a b)).symm
  exact (half7_at (m ((c.tc : Thread nD τ).loc main_arg7)) ⟨n * 32 + a.val, by omega⟩ b).symm

/-- Where an element of the third cast's block lies. -/
theorem emb10 (t : Fin (cfgA 0).N) (n : ℕ) (hn : n < 448) (e : ((cfgA 0).win 10).index t = ![n, 0]) (a : Fin 128) (b : Fin 2048) :
    (((cfgA 0).win 10).blk t).view.emb (ix2 a b) = (ix2 ⟨n * 128 + a.val, by omega⟩ b : Cert.ReferenceIdeal.S57344x2048.Idx) := by
  blk_ext [e]

/-- A block of the third weight matrix. -/
theorem iblk6 (t : Fin (cfgA 0).N) (n : ℕ) (hn : n < 448) (e : ((cfgA 0).win 6).index t = ![n, 0]) (a : Fin 128) (b : Fin 2048) :
    iblk 0 m ρ c (6 : Fin 11) t (ix2 a b) = m ((c.tc : Thread nD τ).loc main_arg8) (ix2 ⟨n * 128 + a.val, by omega⟩ b) := by
  blk_ext [iblk, e]

/-- The third cast's array at the end. -/
theorem out10 : (dats 0 m ρ 0 c).arrAt (10 : Fin 11) (cfgA 0).N = half2 (m ((c.tc : Thread nD τ).loc main_arg8)) := by
  refine (dats 0 m ρ 0 c).arrAt_eq_of_covers (10 : Fin 11) _ covers10 fun t hd y => ?_
  blk_simp
  rw [after0_10, traj0_eq, (casts m ρ c t _).2.2]
  have e := (places8 t).2.2
  obtain ⟨n, e8, l8⟩ : ∃ n, ((cfgA 0).win 10).index t = ![n, 0] ∧ n < 448 := ⟨_, (rows8 t).2.2.2.2.1, (rows8 t).2.2.2.2.2⟩
  rw [e8] at e
  obtain ⟨a, b, rfl⟩ : ∃ (a : Fin 128) (b : Fin 2048), y = (ix2 a b : S128x2048.Idx) := ⟨y 0, y 1, funext fun a => by
    match a with
    | ⟨0, _⟩ => rfl
    | ⟨1, _⟩ => rfl⟩
  refine (iblk6 m ρ c t n l8 e a b).trans ?_
  refine Eq.trans ?_ (congrArg (half2 (m ((c.tc : Thread nD τ).loc main_arg8))) (emb10 t n l8 e8 a b)).symm
  exact (half2_at (m ((c.tc : Thread nD τ).loc main_arg8)) ⟨n * 128 + a.val, by omega⟩ b).symm

/-- No query and no key is infinite where the precondition holds. -/
theorem finite_of_pre (h : Cert.Pre_KernelIdeal_pinned_finite (hPre_pinned_finite := preFiniteFacts) m) : Finite m c := by
  have e := (tables_finite _ _ _ _ _ _ _ _ _ (h c)).2
  exact ⟨fun i => real_of_abs (e.1 i), fun i => real_of_abs (e.2.1 i), fun i => real_of_abs (e.2.2 i)⟩

end Cert.Attn
-- ==== Proof.Claim.lean ====
module

public import proofs.«01_k».proof.Proof.Value

@[expose] public section

set_option maxRecDepth 16384

noncomputable section

namespace Cert.Attn

open Idealize.ShloMosaic
open Idealize.ShloMosaic.TcCoe Idealize.SL.Sem

/-- The named mask constant stands for the least value. -/
theorem preserves : Cert.preserves_Kernel_KernelIdeal :=
  IdealRules.named_const.statement Cert.KernelIdeal.κ "mask" .f32 0xF149F2CA#32 ⊥ rfl

/-- The reference leaves its arguments as they were and every counter at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run _ _ _).mono (fun r h => ⟨fun c => (h c).2.2.2.2, sem_eq_zero_of_no_sems (by decide) r.2⟩) (Cert.ReferenceIdeal.Value.run (F := Ideal) m g)

/-- The reference's frame. -/
theorem frame_ref : Cert.quiescent_ReferenceIdeal (hReferenceIdeal := Cert.ReferenceIdeal.Gen.facts) :=
  fun m g _ => ref_frame m g

/-- The reference's frame under the precondition that bounds the arrays. -/
theorem frame_ref_finite : Cert.quiescent_ReferenceIdeal_pre_pinned_finite (hReferenceIdeal := Cert.ReferenceIdeal.Gen.facts)
    (hPre_pinned_finite := preFiniteFacts) :=
  fun m g _ => ref_frame m g

/-- The kernel's results are the reference's. -/
theorem algebraic : Cert.algebraic_KernelIdeal_ReferenceIdeal_pre_pinned_finite (hKernelIdeal := Cert.KernelIdeal.Gen.facts)
    (hReferenceIdeal := Cert.ReferenceIdeal.Gen.facts) (hPre_pinned_finite := preFiniteFacts) := by
  intro m g m' g' hp ha
  have pin := pinned_of_finite m hp
  refine ⟨fun c => Ref.whole (aQ m c) (aK m c) (aP m c) (aV m c), fun c => half7 (m ((c.tc : Thread Cert.KernelIdeal.nD Cert.KernelIdeal.τ).loc Cert.KernelIdeal.main_arg6)),
    fun c => half7 (m ((c.tc : Thread Cert.KernelIdeal.nD Cert.KernelIdeal.τ).loc Cert.KernelIdeal.main_arg7)),
    fun c => half2 (m ((c.tc : Thread Cert.KernelIdeal.nD Cert.KernelIdeal.τ).loc Cert.KernelIdeal.main_arg8)), ?_, ?_⟩
  · refine (θ_run _ _ _).mono (fun r h c => ?_) (θ_run_and (Cert.KernelIdeal.Gen.run_main 0 m g pin) (Cert.KernelIdeal.Gen.unchanged 0 m g pin))
    have q := (h.1 c).1
    exact ⟨(q 7).trans (out7 m g c (finite_of_pre m c hp)), (q 8).trans (out8 m g c), (q 9).trans (out9 m g c), (q 10).trans (out10 m g c), h.2 c⟩
  · refine (θ_run _ _ _).mono (fun r h c => ?_) (Cert.ReferenceIdeal.Value.run (F := Ideal) m' g')
    obtain ⟨-, -, a2, a3, a4, a5, a6, a7, a8⟩ := ha c
    obtain ⟨r0, r1, r2, r3, rest⟩ := h c
    refine ⟨r0.trans ?_, r1.trans ?_, r2.trans ?_, r3.trans ?_, rest⟩
    · refine (Ref.res_eq m' c).trans ?_
      rw [a2, a3, a4, a5]
    · rw [a6]
      rfl
    · rw [a7]
      rfl
    · rw [a8]
      rfl

end Cert.Attn
-- ==== Proof.DenseStep.lean ====
module

public import proofs.«01_k».proof.Proof.Gen.Kernel2Ideal.Flash
public import Idealize.ShloMosaic.Lib.Pointwise
public import Idealize.ShloMosaic.Lib.VecWindow

@[expose] public section

set_option maxRecDepth 65536

noncomputable section

namespace Cert.Dense

open Cert.Kernel2Ideal Cert.Kernel2Ideal.Gen
open Idealize.ShloMosaic
open Idealize.ShloMosaic.TcCoe Idealize.ShloMosaic.Tactic

variable (m : (ℓ : Loc nD τ sig) → Buf (Elt Ideal) ℓ) (ρ : Dev nD → PrngReg) (c : Dev nD) (t : Fin (cfgA 0).N)

/-- What a point leaves: the output's block and the scratch. -/
abbrev St (c : Dev nD) : Type := (S512x2048.Idx → Elt Ideal .f32) × Buf (Elt Ideal) ((c : Thread nD τ).loc cc0_scratch0)

/-- The normed rows in what a point leaves. -/
abbrev normed (s : St c) : S512x2048.Idx → Elt Ideal .bf16 := View.read (Elt Ideal) scM0_0.view s.2

/-- A block held whole and loaded whole is read as it is. -/
theorem load_held {s : Shape} {e : EltTy} (a : Memref sig .tc .vmem s e) (h : a.IsWhole) (x : s.Idx → Elt Ideal e)
    (off : Fin s.rank → ℕ) (inb : ∀ d, off d + s.size d ≤ s.size d) :
    View.readAt (Elt Ideal) a.view (Rect.unit off s.size inb).toLoadRect (h.unread x) = x := by
  rw [View.readAt_full, h.read_unread]

/-- The rows' norm, written down at the first point of a row of blocks. -/
theorem norm_A (prev : St c) (q0 : P0_0 0 t) :
    normed c (step0 0 m ρ c t prev) = k0_pay1 (F := Ideal) (iblk 0 m ρ c (0 : Fin 6) t) (iblk 0 m ρ c (1 : Fin 6) t) := by
  rw [normed, step0_A 0 m ρ c t prev q0]
  dsimp only
  delta kernelRun0_A
  dsimp only
  delta kernelRun0_A.sl.HS0_1
  refine (View.read_writes_full _ _ _ _ _).trans ?_
  rw [View.readAt_rep_full, View.readAt_rep_full]

/-- The rows' norm stays at the other points. -/
theorem norm_B (prev : St c) (q0 : ¬ P0_0 0 t) : normed c (step0 0 m ρ c t prev) = normed c prev := by
  rw [normed, step0_B 0 m ρ c t prev q0]
  dsimp only
  delta kernelRun0_B
  rfl

/-- The output's block after the first point of a row of blocks. -/
theorem out_A (prev : St c) (q0 : P0_0 0 t) :
    (step0 0 m ρ c t prev).1 = k0_pay2 (F := Ideal) (k0_pay1 (F := Ideal) (iblk 0 m ρ c (0 : Fin 6) t) (iblk 0 m ρ c (1 : Fin 6) t))
      (iblk 0 m ρ c (2 : Fin 6) t) (iblk 0 m ρ c (3 : Fin 6) t) (iblk 0 m ρ c (0 : Fin 6) t) (iblk 0 m ρ c (4 : Fin 6) t) := by
  rw [step0_A 0 m ρ c t prev q0]
  dsimp only
  delta out0_A_5 kernelRun0_A
  dsimp only
  delta kernelRun0_A.sl.HO5_2
  refine (View.read_writes_full _ _ _ _ _).trans ?_
  have e1 : kernelRun0_A.sl.v13 (ms0_0 0 t) (ms0_1 0 t) (iblk 0 m ρ c (0 : Fin 6) t) (iblk 0 m ρ c (1 : Fin 6) t)
      = k0_pay1 (F := Ideal) (iblk 0 m ρ c (0 : Fin 6) t) (iblk 0 m ρ c (1 : Fin 6) t) := by
    delta kernelRun0_A.sl.v13 kernelRun0_A.sl.HS0_1
    refine (View.readCov_full _ _ _ _ _).trans ?_
    rw [View.readAt_rep_full, View.readAt_rep_full]
  have e2 : kernelRun0_A.sl.v24 c (ms0_0 0 t) (ms0_5 0 t) (iblk 0 m ρ c (0 : Fin 6) t) = iblk 0 m ρ c (0 : Fin 6) t := by
    delta kernelRun0_A.sl.v24 kernelRun0_A.sl.HO5_1
    refine (View.readCov_full _ _ _ _ _).trans ?_
    rw [View.readAt_rep_full]
  rw [e1, e2, View.readAt_rep_full, View.readAt_rep_full, View.readAt_rep_full]

/-- The output's block after another point. -/
theorem out_B (prev : St c) (q0 : ¬ P0_0 0 t) :
    (step0 0 m ρ c t prev).1 = k0_pay2 (F := Ideal) (normed c prev)
      (iblk 0 m ρ c (2 : Fin 6) t) (iblk 0 m ρ c (3 : Fin 6) t) prev.1 (iblk 0 m ρ c (4 : Fin 6) t) := by
  rw [step0_B 0 m ρ c t prev q0]
  dsimp only
  delta out0_B_5 kernelRun0_B
  dsimp only
  delta kernelRun0_B.sl.HO5_1
  refine (View.read_writes_full _ _ _ _ _).trans ?_
  rw [load_held, View.readAt_rep_full, View.readAt_rep_full, View.readAt_rep_full, View.readAt_full]

end Cert.Dense
-- ==== Proof.DenseRead.lean ====
module

public import proofs.«01_k».proof.Proof.DenseStep
public import proofs.«01_k».proof.Proof.Gen.Reference2Ideal.Run
public import Idealize.ShloMosaic.Lib.Tactic.CleanTypes

@[expose] public section

set_option maxRecDepth 16384

noncomputable section

namespace Cert.Dense

open Idealize.ShloMosaic
open Idealize.ShloMosaic.TcCoe Idealize.ShloMosaic.Tactic

/-- The gated product of two projections: the first by its logistic, by the second. -/
def gate (a b : EReal) : EReal := a * Ideal.logistic a * b

/-- A row's element normed: by the inverse root of the row's mean square with the small constant added, by the weight. -/
def scaled (s x g : EReal) : EReal :=
  x * Ideal.rsqrt (Ideal.div s (Ideal.ofBits .f32 0x45000000#32) + Ideal.ofBits .f32 0x358637BD#32) * g

section
open Cert.Kernel2Ideal Cert.Kernel2Ideal.Gen

/-- A block's norm at a row and a column. -/
theorem pay1_at (x : Vec Ideal S512x2048 .f32) (g : Vec Ideal S1x2048 .f32) (r : Fin 512) (d : Fin 2048) :
    k0_pay1 x g (ix2 r d) = scaled (∑ k : Fin 2048, x (ix2 r k) * x (ix2 r k)) (x (ix2 r d)) (g (ix2 0 d)) := by
  pointwise [k0_pay1]
  rfl

/-- A tile's contribution upon what the output's block held. -/
theorem pay2_at (h : Vec Ideal S512x2048 .bf16) (wg wu : Vec Ideal S1x2048x1024 .bf16) (o : Vec Ideal S512x2048 .f32) (wd : Vec Ideal S1x1024x2048 .bf16)
    (r : Fin 512) (j : Fin 2048) :
    k0_pay2 h wg wu o wd (ix2 r j) = o (ix2 r j) + ∑ k : Fin 1024, gate (∑ d : Fin 2048, h (ix2 r d) * wg (ix3 0 d k)) (∑ d : Fin 2048, h (ix2 r d) * wu (ix3 0 d k))
      * wd (ix3 0 k j) := by
  pointwise [k0_pay2]
  rfl

end

section
open Cert.Reference2Ideal Cert.Reference2Ideal.Gen

variable (X : FVec Ideal S32768x2048 .f32) (G : FVec Ideal S1x2048 .f32) (Wg Wu : FVec Ideal S1x2048x7168 .bf16) (Wd : FVec Ideal S1x7168x2048 .bf16)

/-- The reference's normed rows. -/
def rows : FVec Ideal S32768x2048 .bf16 :=
  truncf .bf16 (mulf (mulf X (broadcastInDim S32768x2048 ![0, 1] bcast_S32768x1_S32768x2048_0_1 (Host.rsqrt (addf (Host.divf (broadcastInDim S32768x1 ![0] bcast_S32768_S32768x1_0
    (Host.reduceAdd (mulf X X) (constant S_ .f32 0x00000000#32) reducesTo_S32768x2048_S32768_d1 h_S_)) (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 G)) bitsLt_bf16_f32

/-- A projection of the normed rows. -/
def proj (W : FVec Ideal S1x2048x7168 .bf16) : FVec Ideal S32768x7168 .f32 :=
  Host.dotGeneral dot_S32768x2048_S2048x7168_S32768x7168_1_0_0_1_n_n none (rows X G) (shapeCast S2048x7168 W shapeCasts_S1x2048x7168_S2048x7168)

/-- The reference's hidden values. -/
def hidden : FVec Ideal S32768x7168 .bf16 :=
  truncf .bf16 (mulf (mulf (proj X G Wg) (Host.divf (broadcastInDim S32768x7168 ![] bcast_S_S32768x7168 (constant S_ .f32 0x3F800000#32))
    (addf (broadcastInDim S32768x7168 ![] bcast_S_S32768x7168 (constant S_ .f32 0x3F800000#32)) (Host.exp (Host.negf (proj X G Wg)))))) (proj X G Wu)) bitsLt_bf16_f32

/-- The reference's result. -/
def whole : FVec Ideal S32768x2048 .f32 :=
  addf X (Host.dotGeneral dot_S32768x7168_S7168x2048_S32768x2048_1_0_0_1_n_n none (hidden X G Wg Wu) (shapeCast S7168x2048 Wd shapeCasts_S1x7168x2048_S7168x2048))

/-- The reference's norm at a row and a column. -/
theorem rows_at (R : Fin 32768) (d : Fin 2048) :
    rows X G (ix2 R d) = scaled (∑ k : Fin 2048, X (ix2 R k) * X (ix2 R k)) (X (ix2 R d)) (G (ix2 0 d)) := by
  pointwise [rows]
  rfl

/-- A projection at a row and a column. -/
theorem proj_at (W : FVec Ideal S1x2048x7168 .bf16) (R : Fin 32768) (k : Fin 7168) :
    proj X G W (ix2 R k) = ∑ d : Fin 2048, rows X G (ix2 R d) * W (ix3 0 d k) := by
  pointwise [proj]

/-- A hidden value at a row and a column. -/
theorem hidden_at (R : Fin 32768) (k : Fin 7168) :
    hidden X G Wg Wu (ix2 R k) = gate (proj X G Wg (ix2 R k)) (proj X G Wu (ix2 R k)) := by
  pointwise [hidden]
  rfl

/-- The result at a row and a column. -/
theorem whole_at (R : Fin 32768) (j : Fin 2048) :
    whole X G Wg Wu Wd (ix2 R j) = X (ix2 R j) + ∑ k : Fin 7168, hidden X G Wg Wu (ix2 R k) * Wd (ix3 0 k j) := by
  pointwise [whole]

end

end Cert.Dense
-- ==== Proof.DenseValue.lean ====
module

public import proofs.«01_k».proof.Proof.DenseRead
public import Idealize.ShloMosaic.Lib.Pipeline.ValueKit

@[expose] public section

set_option maxRecDepth 16384

noncomputable section

namespace Cert.Dense

open Cert.Kernel2Ideal Cert.Kernel2Ideal.Gen
open Idealize.ShloMosaic
open Idealize.ShloMosaic.TcCoe Idealize.ShloMosaic.Tactic

variable (m : (ℓ : Loc nD τ sig) → Buf (Elt Ideal) ℓ) (ρ : Dev nD → PrngReg) (c : Dev nD)

/-- Where the blocks lie. -/
theorem places : ∀ t : Fin (cfgA 0).N,
    ((cfgA 0).win 0).index t = ![t.val / 7, 0] ∧ ((cfgA 0).win 1).index t = ![0, 0]
      ∧ ((cfgA 0).win 2).index t = ![0, 0, t.val % 7] ∧ ((cfgA 0).win 3).index t = ![0, 0, t.val % 7]
      ∧ ((cfgA 0).win 4).index t = ![0, t.val % 7, 0] ∧ ((cfgA 0).win 5).index t = ![t.val / 7, 0] := by
  decide +kernel

/-- Which path a point takes, and when the output's block goes out. -/
theorem paths : ∀ t : Fin (cfgA 0).N, (P0_0 0 t ↔ t.val % 7 = 0) ∧ (((cfgA 0).win 5).flush t = true → t.val % 7 = 6) := by
  decide +kernel

/-- The output's blocks cover it. -/
theorem covers5 : ((cfgA 0).win 5).Covers := by
  decide +kernel

/-- The rows. -/
abbrev aX : S32768x2048.Idx → EReal := m ((c.tc : Thread nD τ).loc main_arg2)
/-- The norm's weight. -/
abbrev aG : S1x2048.Idx → EReal := m ((c.tc : Thread nD τ).loc main_arg3)
/-- The gate's weight. -/
abbrev aWg : S1x2048x7168.Idx → EReal := m ((c.tc : Thread nD τ).loc main_arg4)
/-- The second projection's weight. -/
abbrev aWu : S1x2048x7168.Idx → EReal := m ((c.tc : Thread nD τ).loc main_arg5)
/-- The last projection's weight. -/
abbrev aWd : S1x7168x2048.Idx → EReal := m ((c.tc : Thread nD τ).loc main_arg6)

section
variable (t : Fin (cfgA 0).N)

/-- The grid's points: 64 blocks of rows by seven tiles. -/
theorem lt_points : t.val < 448 := t.isLt

/-- Row `r` of a point's block. -/
def rT (r : Fin 512) : Fin 32768 := ⟨t.val / 7 * 512 + r.val, by have := lt_points t; omega⟩

/-- Column `k` of a point's tile. -/
def kT (k : Fin 1024) : Fin 7168 := ⟨t.val % 7 * 1024 + k.val, by omega⟩

/-- A point's block of the rows. -/
theorem iblk0 (r : Fin 512) (d : Fin 2048) : iblk 0 m ρ c (0 : Fin 6) t (ix2 r d) = aX m c (ix2 (rT t r) d) := by
  have e := (places t).1
  blk_ext [iblk, e, rT]

/-- A point's block of the norm's weight. -/
theorem iblk1 (d : Fin 2048) : iblk 0 m ρ c (1 : Fin 6) t (ix2 0 d) = aG m c (ix2 0 d) := by
  have e := (places t).2.1
  blk_ext [iblk, e]

/-- A point's block of the gate's weight. -/
theorem iblk2 (d : Fin 2048) (k : Fin 1024) : iblk 0 m ρ c (2 : Fin 6) t (ix3 0 d k) = aWg m c (ix3 0 d (kT t k)) := by
  have e := (places t).2.2.1
  blk_ext [iblk, e, kT]

/-- A point's block of the second projection's weight. -/
theorem iblk3 (d : Fin 2048) (k : Fin 1024) : iblk 0 m ρ c (3 : Fin 6) t (ix3 0 d k) = aWu m c (ix3 0 d (kT t k)) := by
  have e := (places t).2.2.2.1
  blk_ext [iblk, e, kT]

/-- A point's block of the last projection's weight. -/
theorem iblk4 (k : Fin 1024) (j : Fin 2048) : iblk 0 m ρ c (4 : Fin 6) t (ix3 0 k j) = aWd m c (ix3 0 (kT t k) j) := by
  have e := (places t).2.2.2.2.1
  blk_ext [iblk, e, kT]

/-- Where an element of the output's block lies in the output. -/
theorem emb5 (r : Fin 512) (j : Fin 2048) :
    (((cfgA 0).win 5).blk t).view.emb (ix2 r j) = (ix2 (rT t r) j : S32768x2048.Idx) := by
  have e := (places t).2.2.2.2.2
  blk_ext [e, rT]

end

/-- A hidden column's contribution to a row's result, the columns counted by all naturals. -/
def part (R : Fin 32768) (j : Fin 2048) (k : ℕ) : EReal :=
  if h : k < 7168 then hidden (aX m c) (aG m c) (aWg m c) (aWu m c) (ix2 R ⟨k, h⟩) * aWd m c (ix3 0 ⟨k, h⟩ j) else 0

/-- What a point's block of normed rows and output hold. -/
def Holds (t : Fin (cfgA 0).N) (s : St c) : Prop :=
  (∀ (r : Fin 512) (d : Fin 2048), normed c s (ix2 r d) = rows (aX m c) (aG m c) (ix2 (rT t r) d))
    ∧ ∀ (r : Fin 512) (j : Fin 2048), s.1 (ix2 r j) = aX m c (ix2 (rT t r) j) + ∑ k ∈ Finset.range (t.val % 7 * 1024 + 1024), part m c (rT t r) j k

/-- The tile's sum at a point is the sum of its columns' contributions. -/
theorem tile_sum (t : Fin (cfgA 0).N) (h : S512x2048.Idx → EReal) (hh : ∀ (r : Fin 512) (d : Fin 2048), h (ix2 r d) = rows (aX m c) (aG m c) (ix2 (rT t r) d))
    (r : Fin 512) (j : Fin 2048) :
    (∑ k : Fin 1024, gate (∑ d : Fin 2048, h (ix2 r d) * iblk 0 m ρ c (2 : Fin 6) t (ix3 0 d k)) (∑ d : Fin 2048, h (ix2 r d) * iblk 0 m ρ c (3 : Fin 6) t (ix3 0 d k))
      * iblk 0 m ρ c (4 : Fin 6) t (ix3 0 k j)) = ∑ k ∈ Finset.range 1024, part m c (rT t r) j (t.val % 7 * 1024 + k) := by
  rw [Finset.sum_range]
  refine Finset.sum_congr rfl fun k _ => ?_
  have l : t.val % 7 * 1024 + k.val < 7168 := by omega
  rw [part, dif_pos l, hidden_at, proj_at, proj_at]
  simp only [hh]
  rw [iblk4]
  congr 2
  · exact Finset.sum_congr rfl fun d _ => congrArg _ (iblk2 m ρ c t d k)
  · exact Finset.sum_congr rfl fun d _ => congrArg _ (iblk3 m ρ c t d k)

/-- The norm of a point's rows. -/
theorem norm_at (t : Fin (cfgA 0).N) (r : Fin 512) (d : Fin 2048) :
    k0_pay1 (F := Ideal) (iblk 0 m ρ c (0 : Fin 6) t) (iblk 0 m ρ c (1 : Fin 6) t) (ix2 r d) = rows (aX m c) (aG m c) (ix2 (rT t r) d) := by
  refine (pay1_at _ _ r d).trans ?_
  rw [rows_at]
  have e : ∀ k : Fin 2048, iblk 0 m ρ c (0 : Fin 6) t (ix2 r k) = aX m c (ix2 (rT t r) k) := iblk0 m ρ c t r
  simp only [e]
  exact congrArg _ (iblk1 m ρ c t d)

/-- The first point of a row of blocks. -/
theorem holds_first (t : Fin (cfgA 0).N) (prev : St c) (q : P0_0 0 t) : Holds m c t (step0 0 m ρ c t prev) := by
  have z := ((paths t).1).1 q
  refine ⟨fun r d => ?_, fun r j => ?_⟩
  · rw [norm_A m ρ c t prev q]
    exact norm_at m ρ c t r d
  · rw [out_A m ρ c t prev q]
    refine (pay2_at _ _ _ _ _ r j).trans ?_
    rw [tile_sum m ρ c t _ (norm_at m ρ c t) r j]
    refine congrArg₂ _ (iblk0 m ρ c t r j) ?_
    rw [z]
    simp only [zero_mul, zero_add]

/-- Another point. -/
theorem holds_next (t t' : Fin (cfgA 0).N) (prev : St c) (q : ¬ P0_0 0 t) (e : t'.val + 1 = t.val) (h : Holds m c t' prev) : Holds m c t (step0 0 m ρ c t prev) := by
  have z : ¬ t.val % 7 = 0 := fun z => q ((paths t).1.2 z)
  have er : ∀ r, rT t' r = rT t r := fun r => Fin.ext (by show t'.val / 7 * 512 + _ = t.val / 7 * 512 + _; omega)
  have et : t.val % 7 * 1024 = t'.val % 7 * 1024 + 1024 := by omega
  obtain ⟨hn, ho⟩ := h
  simp only [er] at hn ho
  refine ⟨fun r d => ?_, fun r j => ?_⟩
  · rw [norm_B m ρ c t prev q]
    exact hn r d
  · rw [out_B m ρ c t prev q]
    refine (pay2_at _ _ _ _ _ r j).trans ?_
    rw [tile_sum m ρ c t _ hn r j, ho, add_assoc, et]
    exact congrArg _ (Finset.sum_range_add _ _ _).symm

/-- After every point the blocks hold what they should. -/
theorem holds (n : ℕ) : ∀ h : n < (cfgA 0).N, Holds m c ⟨n, h⟩ (traj0 0 m ρ c n h) := by
  induction n with
  | zero => exact fun h => holds_first m ρ c ⟨0, h⟩ _ ((paths ⟨0, h⟩).1.2 rfl)
  | succ n ih =>
    intro h
    by_cases q : P0_0 0 ⟨n + 1, h⟩
    · exact holds_first m ρ c ⟨n + 1, h⟩ _ q
    · exact holds_next m ρ c ⟨n + 1, h⟩ ⟨n, Nat.lt_of_succ_lt h⟩ _ q rfl (ih _)

/-- The output's array at the end is the reference's result. -/
theorem out5 : (dats 0 m ρ 0 c).arrAt (5 : Fin 6) (cfgA 0).N = whole (aX m c) (aG m c) (aWg m c) (aWu m c) (aWd m c) := by
  refine (dats 0 m ρ 0 c).arrAt_eq_of_covers (5 : Fin 6) _ covers5 fun t hd y => ?_
  blk_simp
  rw [after0_5]
  obtain ⟨r, j, rfl⟩ : ∃ (r : Fin 512) (j : Fin 2048), y = (ix2 r j : S512x2048.Idx) := ⟨y 0, y 1, funext fun a => by
    match a with
    | ⟨0, _⟩ => rfl
    | ⟨1, _⟩ => rfl⟩
  refine ((holds m ρ c t.val t.isLt).2 r j).trans ?_
  refine Eq.trans ?_ (congrArg (whole (aX m c) (aG m c) (aWg m c) (aWu m c) (aWd m c)) (emb5 t r j)).symm
  refine Eq.trans ?_ (whole_at (aX m c) (aG m c) (aWg m c) (aWu m c) (aWd m c) (rT t r) j).symm
  have z : t.val % 7 * 1024 + 1024 = 7168 := by rw [(paths t).2 hd]
  refine congrArg _ ?_
  show ∑ k ∈ Finset.range (t.val % 7 * 1024 + 1024), _ = _
  rw [z, Finset.sum_range]
  exact Finset.sum_congr rfl fun k _ => by rw [part, dif_pos k.isLt]

end Cert.Dense
-- ==== Proof.DenseClaim.lean ====
module

public import proofs.«01_k».proof.Proof.DenseValue
public import proofs.«01_k».proof.Proof.Tables
public import proofs.«01_k».proof.Proof.Gen.Kernel2.Flash
public import Idealize.ShloMosaic.Adequacy
public import Idealize.ShloMosaic.Init

@[expose] public section

set_option maxRecDepth 16384

noncomputable section

namespace Cert.Dense

open Idealize.ShloMosaic
open Idealize.ShloMosaic.TcCoe Idealize.SL.Sem

/-- The shapes' relations that the precondition's operations take. -/
theorem preFacts : Cert.Pre_pinned2.Facts where
  bcast_S_S64 := by decide
  reducesTo_S64_S_d0 := by decide
  h_S_ := by decide
  bcast_S_S1 := by decide
  reducesTo_S1_S_d0 := by decide

section
variable {F : FTy → Type} [FloatOps F]

attribute [local instance] preFacts

set_option maxHeartbeats 1000000 in
/-- The precondition says what the two tables hold. -/
theorem tables (a0 : IVec Cert.Pre_pinned2.S64 32) (a1 : IVec Cert.Pre_pinned2.S1 32) (x2 : FVec F Cert.Pre_pinned2.S32768x2048 .f32)
    (x3 : FVec F Cert.Pre_pinned2.S1x2048 .f32) (x4 x5 : FVec F Cert.Pre_pinned2.S1x2048x7168 .bf16) (x6 : FVec F Cert.Pre_pinned2.S1x7168x2048 .bf16)
    (h : Cert.Pre_pinned2.fn a0 a1 x2 x3 x4 x5 x6 = fun _ => 1#1) : (∀ i, a0 i = 0#32) ∧ ∀ i, a1 i = 64#32 := by
  have e := congrFun h (fun a => a.elim0)
  obtain ⟨e0, e1⟩ := Cert.Attn.andi_split e
  exact ⟨fun i => Cert.Attn.eq_of_cmpi (Host.reduce_andi_all _ _ _ _ _ e0 i), fun i => Cert.Attn.eq_of_cmpi (Host.reduce_andi_all _ _ _ _ _ e1 i)⟩

end

/-- The index of a vector of 64 at a number. -/
abbrev at64 (k : Fin 64) : (⟨1, ![64]⟩ : Shape).Idx := fun d => match d with | ⟨0, _⟩ => k

/-- A property of every index of a vector of 64 holds if it holds of each of the 64 numbers. -/
theorem each_index {P : (⟨1, ![64]⟩ : Shape).Idx → Prop} (h : ∀ k : Fin 64, P (at64 k)) (i : (⟨1, ![64]⟩ : Shape).Idx) : P i := by
  have : i = at64 (i 0) := by
    funext a
    match a with
    | ⟨0, _⟩ => rfl
  rw [this]
  exact h (i 0)

attribute [local instance] preFacts

/-- The kernel's tables hold the words the launch is written at. -/
theorem pinned_kernel (m : (ℓ : Loc Cert.Kernel2.nD Cert.Kernel2.τ Cert.Kernel2.sig) → Buf (Elt Bits) ℓ) (h : Cert.Pre_Kernel2 m) :
    Cert.Kernel2.Gen.Pinned 0 m := by
  refine ⟨fun c => ?_, fun c => ?_⟩
  · funext i
    refine ((tables _ _ _ _ _ _ _ (h c)).1 i).trans ?_
    revert i
    refine each_index ?_
    decide +kernel
  · funext i
    exact (tables _ _ _ _ _ _ _ (h c)).2 i

/-- The idealized kernel's tables hold those words too. -/
theorem pinned_ideal (m : (ℓ : Loc Cert.Kernel2Ideal.nD Cert.Kernel2Ideal.τ Cert.Kernel2Ideal.sig) → Buf (Elt Ideal) ℓ) (h : Cert.Pre_Kernel2Ideal m) :
    Cert.Kernel2Ideal.Gen.Pinned 0 m := by
  refine ⟨fun c => ?_, fun c => ?_⟩
  · funext i
    refine ((tables _ _ _ _ _ _ _ (h c)).1 i).trans ?_
    revert i
    refine each_index ?_
    show ∀ k : Fin 64, 0#32 = Cert.Kernel2Ideal.Gen.pinT_0 0 (at64 k)
    decide +kernel
  · funext i
    exact (tables _ _ _ _ _ _ _ (h c)).2 i

/-- The frame of the kernel. -/
theorem frame_kernel : Cert.quiescent_Kernel2 (hKernel2 := Cert.Kernel2.Gen.facts) (hPre_pinned2 := preFacts) :=
  fun m g h => Cert.Kernel2.Gen.frame 0 m g (pinned_kernel m h)

/-- The frame of the idealized kernel. -/
theorem frame_ideal : Cert.quiescent_Kernel2Ideal (hKernel2Ideal := Cert.Kernel2Ideal.Gen.facts) (hPre_pinned2 := preFacts) :=
  fun m g h => Cert.Kernel2Ideal.Gen.frame 0 m g (pinned_ideal m h)

/-- The reference's frame. -/
theorem frame_ref : Cert.quiescent_Reference2Ideal (hReference2Ideal := Cert.Reference2Ideal.Gen.facts) :=
  fun m g _ => (θ_run _ _ _).mono (fun r h => ⟨fun c => (h c).2, sem_eq_zero_of_no_sems (by decide) r.2⟩) (Cert.Reference2Ideal.Value.run (F := Ideal) m g)

/-- The reference's frame under the precondition. -/
theorem frame_ref_pinned : Cert.quiescent_Reference2Ideal_pre_pinned2 (hReference2Ideal := Cert.Reference2Ideal.Gen.facts) (hPre_pinned2 := preFacts) :=
  fun m g _ => (θ_run _ _ _).mono (fun r h => ⟨fun c => (h c).2, sem_eq_zero_of_no_sems (by decide) r.2⟩) (Cert.Reference2Ideal.Value.run (F := Ideal) m g)

/-- The idealized kernel is the kernel. -/
theorem preserves : Cert.preserves_Kernel2_Kernel2Ideal := by
  trivial

/-- The kernel's result is the reference's. -/
theorem algebraic : Cert.algebraic_Kernel2Ideal_Reference2Ideal (hKernel2Ideal := Cert.Kernel2Ideal.Gen.facts)
    (hReference2Ideal := Cert.Reference2Ideal.Gen.facts) (hPre_pinned2 := preFacts) := by
  intro m g m' g' hp ha
  have pin := pinned_ideal m hp
  refine ⟨fun c => whole (aX m c) (aG m c) (aWg m c) (aWu m c) (aWd m c), ?_, ?_⟩
  · refine (θ_run _ _ _).mono (fun r h c => ?_) (θ_run_and (Cert.Kernel2Ideal.Gen.run_main 0 m g pin) (Cert.Kernel2Ideal.Gen.unchanged 0 m g pin))
    have q := (h.1 c).1
    exact ⟨(q 5).trans (out5 m g c), h.2 c⟩
  · refine (θ_run _ _ _).mono (fun r h c => ?_) (Cert.Reference2Ideal.Value.run (F := Ideal) m' g')
    obtain ⟨-, -, a2, a3, a4, a5, a6⟩ := ha c
    obtain ⟨r0, rest⟩ := h c
    refine ⟨r0.trans ?_, rest⟩
    rw [a2, a3, a4, a5, a6]
    rfl

end Cert.Dense
-- ==== Proof.ExpertTabs.lean ====
module

public import proofs.«01_k».proof.Proof.Gen.Kernel3Ideal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel3Ideal.Free

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Tables a routing may fill: an expert for every block, and how many blocks are used. -/
structure Tabs where
  e : S140.Idx → BitVec 32
  u : S1.Idx → BitVec 32
  he : ∀ x, (e x).toNat < 8
  hu : ∀ x, 1 ≤ (u x).toNat
  hv : ∀ x, (u x).toNat < 2147483648

variable (ch : Tabs)

/-- The experts' table. -/
abbrev pinT_0 : S140.Idx → BitVec 32 := ch.e
/-- The number of blocks used. -/
abbrev pinT_1 : S1.Idx → BitVec 32 := ch.u

set_option backward.proofsInPublic true in
/-- Both tables, as the launch takes them. -/
def pfN : pre0.Contents (Elt Ideal) := fun | ⟨0, _⟩ => pinT_0 ch | ⟨1, _⟩ => pinT_1 ch | ⟨_ + 2, h⟩ => absurd h (by simp)

/-- The arguments hold these tables. -/
def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

/-- The one index of the second table. -/
def only : S1.Idx := Shape.Idx.first (by decide)

/-- The number of blocks used, as a number: all of them, where the word says more. -/
def used : ℕ := min (ch.u only).toNat 140

theorem used_pos : 1 ≤ used ch := le_min (ch.hu only) (by decide)
theorem used_le : used ch ≤ 140 := Nat.min_le_right ..

theorem only_eq (x : S1.Idx) : x = only := by
  funext a
  have h : ∀ (a : Fin 1) (p q : Fin (S1.size a)), p = q := by decide
  exact h a _ _

theorem u_eq (x : S1.Idx) : ch.u x = ch.u only := congrArg ch.u (only_eq x)

/-- A block's expert, as a number. -/
def expertAt (b : Fin 140) : ℕ := (ch.e fun a => ⟨b.val, lt_of_lt_of_le b.isLt (by fin_cases a; exact le_refl _)⟩).toNat

theorem at_one (r) (h) : (pfN ch).at 1 r h = ch.u only := u_eq ch _

/-- A small number before a word, both signed. -/
theorem small_slt (a : Fin 140) (w : BitVec 32) (h : w.toNat < 2147483648) : (BitVec.ofNat 32 a.val).slt w = decide (a.val < w.toNat) := by
  have e : (BitVec.ofNat 32 a.val).toNat = a.val := by rw [BitVec.toNat_ofNat, Nat.mod_eq_of_lt (by omega)]
  have e1 : (BitVec.ofNat 32 a.val).toInt = a.val := by rw [BitVec.toInt_eq_toNat_of_lt (by omega), e]
  have e2 : w.toInt = w.toNat := BitVec.toInt_eq_toNat_of_lt (by omega)
  unfold BitVec.slt
  rw [e1, e2]
  exact decide_eq_decide.2 Nat.cast_lt

/-- A word not past a small number, both signed. -/
theorem sle_small (a : Fin 140) (w : BitVec 32) (h : w.toNat < 2147483648) : w.sle (BitVec.ofNat 32 a.val) = decide (w.toNat ≤ a.val) := by
  have e : (BitVec.ofNat 32 a.val).toNat = a.val := by rw [BitVec.toNat_ofNat, Nat.mod_eq_of_lt (by omega)]
  have e1 : (BitVec.ofNat 32 a.val).toInt = a.val := by rw [BitVec.toInt_eq_toNat_of_lt (by omega), e]
  have e2 : w.toInt = w.toNat := BitVec.toInt_eq_toNat_of_lt (by omega)
  unfold BitVec.sle
  rw [e1, e2]
  exact decide_eq_decide.2 Nat.cast_le

theorem bit_of (p q : Prop) [Decidable p] [Decidable q] (h : p ↔ q) : BitVec.ofBool (decide p) = if q then 1#1 else 0#1 := by
  by_cases hq : q
  · rw [if_pos hq, decide_eq_true (h.2 hq)]
    rfl
  · rw [if_neg hq, decide_eq_false fun hp => hq (h.1 hp)]
    rfl

theorem min_le (a : Fin 140) : (Scalar.minsi (BitVec.ofNat 32 a.val) (Scalar.subi (ch.u only) 1#32)).toNat = min a.val (used ch - 1) := by
  have p := ch.hu only
  have q := ch.hv only
  have e : (BitVec.ofNat 32 a.val).toNat = a.val := by rw [BitVec.toNat_ofNat, Nat.mod_eq_of_lt (by omega)]
  have d : (ch.u only - 1#32).toNat = (ch.u only).toNat - 1 := BitVec.toNat_sub_of_le (x := ch.u only) (y := 1#32) p
  show (if (BitVec.ofNat 32 a.val).slt (ch.u only - 1#32) then BitVec.ofNat 32 a.val else ch.u only - 1#32).toNat = _
  rw [small_slt a _ (by omega), d]
  unfold used
  by_cases l : a.val < (ch.u only).toNat - 1
  · rw [if_pos (decide_eq_true l), e]
    omega
  · rw [if_neg (by simpa using l), d]
    omega

theorem live_iff (a : Fin 140) : Scalar.cmpi .slt (BitVec.ofNat 32 a.val) (ch.u only) = if a.val < used ch then 1#1 else 0#1 := by
  show BitVec.ofBool ((BitVec.ofNat 32 a.val).slt (ch.u only)) = _
  rw [small_slt a _ (ch.hv only)]
  exact bit_of _ _ (by unfold used; omega)

/-- The word of the experts' table that a point reads. -/
def blockWord (i : grid0.Coords) : BitVec 32 :=
  (pfN ch).at 0 (Rect.unit (s := S140) ![(Scalar.indexCast (BitVec.ofNat 32 (i 0).val) : Index).toNat] S1.size (k0_off1_inb i)) numel1_S1

theorem blockWord_lt (i : grid0.Coords) : (blockWord ch i).toNat < 8 := ch.he _

theorem blockWord_eq (i : grid0.Coords) : (blockWord ch i).toNat = expertAt ch (i 0) := by
  refine congrArg (fun x => (ch.e x).toNat) (funext fun a => Fin.ext ?_)
  fin_cases a
  have : ∀ a : Fin 140, (Scalar.indexCast (BitVec.ofNat 32 a.val) : Index).toNat + 0 = a.val := by decide +kernel
  exact this (i 0)

theorem ge_iff (a : Fin 140) : Scalar.cmpi .sge (BitVec.ofNat 32 a.val) (ch.u only) = if used ch ≤ a.val then 1#1 else 0#1 := by
  show BitVec.ofBool ((ch.u only).sle (BitVec.ofNat 32 a.val)) = _
  rw [sle_small a _ (ch.hv only)]
  exact bit_of _ _ (by unfold used; omega)

theorem first_iff : ∀ f : Fin 7, Scalar.cmpi .eq (BitVec.ofNat 32 f.val) 0#32 = if f.val = 0 then 1#1 else 0#1 := by decide +kernel

theorem small : ∀ f : Fin 140, (BitVec.ofNat 32 f.val).toNat = f.val := by decide +kernel

/-- The block of expert rows that a point's weights are taken from. -/
def tile (i : grid0.Coords) : ℕ := if (i 0).val < used ch then (i 1).val else 6

theorem index0 (i : grid0.Coords) : cc0_transform_0 inb_S1_S1_0 numel1_S1 (pfN ch) i = ![min (i 0).val (used ch - 1), 0] :=
  (congrArg (fun w : BitVec 32 => (![(Scalar.minsi (BitVec.ofNat 32 (i 0).val) (Scalar.subi w 1#32)).toNat, 0] : Fin 2 → ℕ))
    (at_one ch (Rect.unit (s := S1) ![0] S1.size inb_S1_S1_0) numel1_S1)).trans
    (congrArg (fun n => (![n, 0] : Fin 2 → ℕ)) (min_le ch (i 0)))

theorem sel_eq (i : grid0.Coords) :
    (Scalar.select (Scalar.cmpi .slt (BitVec.ofNat 32 (i 0).val) (ch.u only)) (BitVec.ofNat 32 (i 1).val) 6#32 : BitVec 32).toNat = tile ch i := by
  have h1 : (i 1).val < 140 := lt_trans (i 1).isLt (by decide)
  rw [live_iff ch (i 0)]
  unfold tile
  dsimp only
  by_cases h : (i 0).val < used ch
  · rw [if_pos h, if_pos h]
    exact small ⟨_, h1⟩
  · rw [if_neg h, if_neg h]
    rfl

theorem index2 (i : grid0.Coords) : cc0_transform_2 inb_S1_S1_0 numel1_S1 k0_off1_inb (pfN ch) i = ![expertAt ch (i 0), 0, tile ch i] :=
  (congrArg (fun w : BitVec 32 => (![(blockWord ch i).toNat, 0, (Scalar.select (Scalar.cmpi .slt (BitVec.ofNat 32 (i 0).val) w) (BitVec.ofNat 32 (i 1).val) 6#32 : BitVec 32).toNat] : Fin 3 → ℕ))
    (at_one ch (Rect.unit (s := S1) ![0] S1.size inb_S1_S1_0) numel1_S1)).trans
    ((congrArg (fun n => (![(blockWord ch i).toNat, 0, n] : Fin 3 → ℕ)) (sel_eq ch i)).trans
      (congrArg (fun n => (![n, 0, tile ch i] : Fin 3 → ℕ)) (blockWord_eq ch i)))

theorem index3 (i : grid0.Coords) : cc0_transform_3 inb_S1_S1_0 numel1_S1 k0_off1_inb (pfN ch) i = ![expertAt ch (i 0), 0, tile ch i] :=
  (congrArg (fun w : BitVec 32 => (![(blockWord ch i).toNat, 0, (Scalar.select (Scalar.cmpi .slt (BitVec.ofNat 32 (i 0).val) w) (BitVec.ofNat 32 (i 1).val) 6#32 : BitVec 32).toNat] : Fin 3 → ℕ))
    (at_one ch (Rect.unit (s := S1) ![0] S1.size inb_S1_S1_0) numel1_S1)).trans
    ((congrArg (fun n => (![(blockWord ch i).toNat, 0, n] : Fin 3 → ℕ)) (sel_eq ch i)).trans
      (congrArg (fun n => (![n, 0, tile ch i] : Fin 3 → ℕ)) (blockWord_eq ch i)))

theorem index4 (i : grid0.Coords) : cc0_transform_4 inb_S1_S1_0 numel1_S1 k0_off1_inb (pfN ch) i = ![expertAt ch (i 0), tile ch i, 0] :=
  (congrArg (fun w : BitVec 32 => (![(blockWord ch i).toNat, (Scalar.select (Scalar.cmpi .slt (BitVec.ofNat 32 (i 0).val) w) (BitVec.ofNat 32 (i 1).val) 6#32 : BitVec 32).toNat, 0] : Fin 3 → ℕ))
    (at_one ch (Rect.unit (s := S1) ![0] S1.size inb_S1_S1_0) numel1_S1)).trans
    ((congrArg (fun n => (![(blockWord ch i).toNat, n, 0] : Fin 3 → ℕ)) (sel_eq ch i)).trans
      (congrArg (fun n => (![n, tile ch i, 0] : Fin 3 → ℕ)) (blockWord_eq ch i)))

theorem expertAt_lt (b : Fin 140) : expertAt ch b < 8 := ch.he _

theorem tile_lt (i : grid0.Coords) : tile ch i < 7 := by
  unfold tile
  have := (i 1).isLt
  split
  · exact this
  · decide

theorem in0 (i : grid0.Coords) : ∀ a, (cc0_transform_0 inb_S1_S1_0 numel1_S1 (pfN ch) i a + 1) * S512x2048.size a ≤ S71680x2048.size a := by
  rw [index0 ch i]
  have h0 : (i 0).val < 140 := (i 0).isLt
  refine okcons ?_ (okcons (by decide) fun a => a.elim0)
  omega

theorem in2 (i : grid0.Coords) : ∀ a, (cc0_transform_2 inb_S1_S1_0 numel1_S1 k0_off1_inb (pfN ch) i a + 1) * S1x2048x1024.size a ≤ S8x2048x7168.size a := by
  rw [index2 ch i]
  have := expertAt_lt ch (i 0)
  have := tile_lt ch i
  refine okcons (by omega) (okcons (by decide) (okcons (by omega) fun a => a.elim0))

theorem in3 (i : grid0.Coords) : ∀ a, (cc0_transform_3 inb_S1_S1_0 numel1_S1 k0_off1_inb (pfN ch) i a + 1) * S1x2048x1024.size a ≤ S8x2048x7168.size a := by
  rw [index3 ch i]
  have := expertAt_lt ch (i 0)
  have := tile_lt ch i
  refine okcons (by omega) (okcons (by decide) (okcons (by omega) fun a => a.elim0))

theorem in4 (i : grid0.Coords) : ∀ a, (cc0_transform_4 inb_S1_S1_0 numel1_S1 k0_off1_inb (pfN ch) i a + 1) * S1x1024x2048.size a ≤ S8x7168x2048.size a := by
  rw [index4 ch i]
  have := expertAt_lt ch (i 0)
  have := tile_lt ch i
  refine okcons (by omega) (okcons (by omega) (okcons (by decide) fun a => a.elim0))

/-- Every block the tables choose lies inside its array. -/
theorem ok_pfN : ok0 (F := Ideal) (pfN ch) :=
  ⟨fun i => ⟨in0 ch i, .inl rfl⟩,
    fun i => ⟨in2 ch i, .inr (Affine.block_words_dvd (s := S8x2048x7168) (p := EltTy.packing .bf16) (by decide) (by decide))⟩,
    fun i => ⟨in3 ch i, .inr (Affine.block_words_dvd (s := S8x2048x7168) (p := EltTy.packing .bf16) (by decide) (by decide))⟩,
    fun i => ⟨in4 ch i, .inr (Affine.block_words_dvd (s := S8x7168x2048) (p := EltTy.packing .bf16) (by decide) (by decide))⟩⟩

/-- The call's configuration at these tables. -/
def adm : (pcfg0 (F := Ideal)).Adm := ⟨pfN ch, ok_pfN ch⟩
abbrev cfgA : Pipeline.Cfg sig Λ₀ := cfg0 (F := Ideal) (adm ch)

abbrev pcs : Fin 1 → Pipeline.Cfg sig Λ₀ := Pipeline.pin (pcfgs (F := Ideal)) fun _ => adm ch

variable (m : (ℓ : Loc nD τ sig) → Buf (Elt Ideal) ℓ) (ρ : Dev nD → PrngReg)

abbrev crd (t : Fin (cfgA ch).N) : (cfgA ch).grid.Coords := (cfgA ch).grid.coords t

abbrev ms0_0 (t : Fin (cfgA ch).N) : Memref sig .tc .vmem S512x2048 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x2048 .f32 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x2048x1024 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x2048x1024 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x1024x2048 .bf16 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S512x2048 .f32 := spec0_5.stage ((cfgA ch).slots t (5 : Fin 6))
abbrev hs0_5 (t : Fin (cfgA ch).N) : (ms0_5 ch t).IsWhole := hstage0_5 (((cfgA ch).slots t (5 : Fin 6)).cast nbuf0_5)

def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

abbrev P0_0 (t : Fin (cfgA ch).N) : Prop := k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1
abbrev P0_1 (t : Fin (cfgA ch).N) : Prop := k0_cond2 (crd ch t) = 1#1
abbrev P0_2 (t : Fin (cfgA ch).N) : Prop := k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1

def sfresh0_0 : ℕ → Bool
  | 0 => true
  | n + 1 => if h : n < (cfgA ch).N then (if P0_0 ch ⟨n, h⟩ then (if P0_1 ch ⟨n, h⟩ then false else sfresh0_0 n) else (if P0_2 ch ⟨n, h⟩ then sfresh0_0 n else sfresh0_0 n)) else true

/-- The scratch is filled by the first point. -/
def sfrTab0_0 (_ : Tabs) (n : ℕ) : Bool := decide (n ≤ 0)

/-- The output block is filled anew at every block's first point. -/
def frTab0_5 (_ : Tabs) (n : ℕ) : Bool := decide (n % 7 = 0)

abbrev FactsAt (ch : Tabs) (t : Fin (cfgA ch).N) : Prop :=
  (sfrTab0_0 ch (t.val + 1) = (if P0_0 ch t then (if P0_1 ch t then false else sfrTab0_0 ch t.val) else (if P0_2 ch t then sfrTab0_0 ch t.val else sfrTab0_0 ch t.val)))
  ∧ (frTab0_5 ch (t.val + 1) = (((cfgA ch).win (5 : Fin 6)).flush t || ((cfgA ch).idle (5 : Fin 6) ((cfgA ch).grid.coords t) && frTab0_5 ch t.val)))
  ∧ (P0_0 ch t → P0_1 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((k0_cond2 (crd ch t) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))
  ∧ (P0_0 ch t → P0_1 ch t → (cfgA ch).idle (5 : Fin 6) ((cfgA ch).grid.coords t) = false ∧ ((cfgA ch).win (5 : Fin 6)).flush t = false ∧ frTab0_5 ch t.val = true ∧ sfrTab0_0 ch (t.val + 1) = false)
  ∧ (P0_0 ch t → ¬P0_1 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond2 (crd ch t) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))
  ∧ (P0_0 ch t → ¬P0_1 ch t → (cfgA ch).idle (5 : Fin 6) ((cfgA ch).grid.coords t) = false ∧ frTab0_5 ch t.val = false ∧ sfrTab0_0 ch t.val = false ∧ sfrTab0_0 ch (t.val + 1) = false)
  ∧ (¬P0_0 ch t → P0_2 ch t → (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)))
  ∧ (¬P0_0 ch t → P0_2 ch t → (cfgA ch).idle (5 : Fin 6) ((cfgA ch).grid.coords t) = false ∧ ((cfgA ch).win (5 : Fin 6)).flush t = false ∧ frTab0_5 ch t.val = true ∧ sfrTab0_0 ch t.val = false ∧ sfrTab0_0 ch (t.val + 1) = false)
  ∧ (¬P0_0 ch t → ¬P0_2 ch t → (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))
  ∧ (¬P0_0 ch t → ¬P0_2 ch t → (cfgA ch).idle (5 : Fin 6) ((cfgA ch).grid.coords t) = true ∧ frTab0_5 ch t.val = false ∧ sfrTab0_0 ch t.val = false ∧ sfrTab0_0 ch (t.val + 1) = false)

theorem crd0 (t : Fin (cfgA ch).N) : (crd ch t 0).val = t.val / 7 :=
  (show ∀ t : Fin 980, (grid0.coords t 0).val = t.val / 7 by decide +kernel) t

theorem crd1 (t : Fin (cfgA ch).N) : (crd ch t 1).val = t.val % 7 :=
  (show ∀ t : Fin 980, (grid0.coords t 1).val = t.val % 7 by decide +kernel) t

theorem cond1_iff (i : grid0.Coords) : k0_cond1 i (ch.u only) = 1#1 ↔ (i 0).val < used ch := by
  unfold k0_cond1
  dsimp only
  rw [live_iff ch (i 0)]
  by_cases h : (i 0).val < used ch
  · rw [if_pos h]
    exact ⟨fun _ => h, fun _ => by decide⟩
  · rw [if_neg h]
    exact ⟨fun q => absurd q (by decide), fun q => absurd q h⟩

theorem cond2_iff (i : grid0.Coords) : k0_cond2 i = 1#1 ↔ (i 1).val = 0 := by
  unfold k0_cond2
  dsimp only
  rw [first_iff (i 1)]
  by_cases h : (i 1).val = 0
  · rw [if_pos h]
    exact ⟨fun _ => h, fun _ => by decide⟩
  · rw [if_neg h]
    exact ⟨fun q => absurd q (by decide), fun q => absurd q h⟩

theorem cond3_iff (i : grid0.Coords) : k0_cond3 i (ch.u only) = 1#1 ↔ used ch ≤ (i 0).val ∧ (i 1).val = 0 := by
  unfold k0_cond3
  dsimp only
  rw [ge_iff ch (i 0), first_iff (i 1)]
  by_cases g : used ch ≤ (i 0).val
  · by_cases h : (i 1).val = 0
    · rw [if_pos g, if_pos h]
      exact ⟨fun _ => ⟨g, h⟩, fun _ => by decide⟩
    · rw [if_pos g, if_neg h]
      exact ⟨fun q => absurd q (by decide), fun q => absurd q.2 h⟩
  · by_cases h : (i 1).val = 0
    · rw [if_neg g, if_pos h]
      exact ⟨fun q => absurd q (by decide), fun q => absurd q.1 g⟩
    · rw [if_neg g, if_neg h]
      exact ⟨fun q => absurd q (by decide), fun q => absurd q.1 g⟩

theorem word_eq : View.readAt (Elt Ideal) (tbM0_1).view (Rect.unit (s := S1) ![0] S1.size inb_S1_S1_0).toLoadRect (pinT_1 ch) (Shape.Idx.first (numel1_S1.symm ▸ Nat.one_pos)) = ch.u only :=
  u_eq ch _

theorem p0_iff (t : Fin (cfgA ch).N) : P0_0 ch t ↔ t.val / 7 < used ch := by
  unfold P0_0
  rw [word_eq ch, cond1_iff ch, crd0 ch]

theorem p1_iff (t : Fin (cfgA ch).N) : P0_1 ch t ↔ t.val % 7 = 0 := by
  unfold P0_1
  rw [cond2_iff, crd1 ch]

theorem p2_iff (t : Fin (cfgA ch).N) : P0_2 ch t ↔ used ch ≤ t.val / 7 ∧ t.val % 7 = 0 := by
  unfold P0_2
  rw [word_eq ch, cond3_iff ch, crd0 ch, crd1 ch]

theorem atD_one : (pfN ch).atD 1 ![0] = ch.u only := by
  unfold Pipeline.Prefetch.Contents.atD
  rw [dif_pos (by decide)]
  exact u_eq ch _

theorem idle_eq (t : Fin (cfgA ch).N) : (cfgA ch).idle (5 : Fin 6) ((cfgA ch).grid.coords t) = decide (used ch ≤ t.val / 7 ∧ t.val % 7 ≠ 0) := by
  show (!(k0_cond1 (crd ch t) ((pfN ch).atD 1 ![0]) == 1#1 && k0_cond2 (crd ch t) == 1#1) && !(k0_cond1 (crd ch t) ((pfN ch).atD 1 ![0]) == 1#1)
    && !(k0_cond3 (crd ch t) ((pfN ch).atD 1 ![0]) == 1#1)) = _
  rw [atD_one ch]
  have a := cond1_iff ch (crd ch t)
  have b := cond2_iff (crd ch t)
  have d := cond3_iff ch (crd ch t)
  rw [crd0 ch] at a
  rw [crd1 ch] at b
  rw [crd0 ch, crd1 ch] at d
  rw [Bool.eq_iff_iff]
  simp only [Bool.and_eq_true, Bool.not_eq_true', Bool.and_eq_false_iff, beq_eq_false_iff_ne, ne_eq, a, b, d, decide_eq_true_eq]
  omega

/-- Some tables. -/
def plain : Tabs := ⟨fun _ => 0#32, fun _ => 1#32, fun _ => by decide, fun _ => by decide, fun _ => by decide⟩

theorem flush_plain : ∀ t : Fin (cfgA plain).N, ((cfgA plain).win (5 : Fin 6)).flush t = decide ((t.val + 1) % 7 = 0) := by decide +kernel

theorem flush_eq (t : Fin (cfgA ch).N) : ((cfgA ch).win (5 : Fin 6)).flush t = decide ((t.val + 1) % 7 = 0) :=
  flush_plain t

set_option maxHeartbeats 1000000 in
/-- What the launch needs to know of every point. -/
theorem allFacts (t : Fin (cfgA ch).N) : FactsAt ch t := by
  have hpos := used_pos ch
  have a := p0_iff ch t
  have b := p1_iff ch t
  have d := p2_iff ch t
  unfold FactsAt
  rw [flush_eq ch, idle_eq ch]
  unfold sfrTab0_0 frTab0_5
  refine ⟨?_, ?_, ?_, ?_, ?_, ?_, ?_, ?_, ?_, ?_⟩
  · by_cases h0 : P0_0 ch t
    · rw [if_pos h0]
      by_cases h1 : P0_1 ch t
      · rw [if_pos h1, decide_eq_false_iff_not]
        omega
      · rw [if_neg h1, Bool.eq_iff_iff]
        have : ¬ t.val % 7 = 0 := fun q => h1 (b.2 q)
        simp only [decide_eq_true_eq]
        omega
    · rw [if_neg h0, ite_self, Bool.eq_iff_iff]
      have : ¬ t.val / 7 < used ch := fun q => h0 (a.2 q)
      simp only [decide_eq_true_eq]
      omega
  · rw [Bool.eq_iff_iff]
    simp only [Bool.or_eq_true, Bool.and_eq_true, decide_eq_true_eq]
    omega
  · intro h0 h1
    exact ⟨h0, h1, fun q => absurd (d.1 q).1 (Nat.not_le.2 (a.1 h0)), trivial⟩
  · intro h0 h1
    have := a.1 h0
    have := b.1 h1
    simp only [decide_eq_false_iff_not, decide_eq_true_eq]
    omega
  · intro h0 h1
    exact ⟨h0, h1, fun q => absurd (d.1 q).1 (Nat.not_le.2 (a.1 h0)), trivial⟩
  · intro h0 h1
    have := a.1 h0
    have : ¬ t.val % 7 = 0 := fun q => h1 (b.2 q)
    simp only [decide_eq_false_iff_not]
    omega
  · intro h0 h2
    exact ⟨h0, h2, trivial⟩
  · intro h0 h2
    have := d.1 h2
    simp only [decide_eq_false_iff_not, decide_eq_true_eq]
    omega
  · intro h0 h2
    exact ⟨h0, h2, trivial⟩
  · intro h0 h2
    have q0 : ¬ t.val / 7 < used ch := fun q => h0 (a.2 q)
    have q2 : ¬ (used ch ≤ t.val / 7 ∧ t.val % 7 = 0) := fun q => h2 (d.2 q)
    simp only [decide_eq_false_iff_not, decide_eq_true_eq]
    omega

end Cert.Kernel3Ideal.Free

end
-- ==== Proof.ExpertRun.lean ====
module

public import proofs.«01_k».proof.Proof.ExpertTabs

@[expose] public section

set_option maxRecDepth 16384

noncomputable section

namespace Cert.Kernel3Ideal.Free

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The algebra of the launch's resources. -/
abbrev EP : Emb (UR sig nD τ) 𝕄 := emb₁

variable (ch : Tabs)
variable (m : (ℓ : Loc nD τ sig) → Buf (Elt Ideal) ℓ) (ρ : Dev nD → PrngReg)

theorem sfrTab0_0_step : ∀ (ch : Tabs) (t : Fin (cfgA ch).N), sfrTab0_0 ch (t.val + 1) = (if P0_0 ch t then (if P0_1 ch t then false else sfrTab0_0 ch t.val) else (if P0_2 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem frTab0_5_step : ∀ (ch : Tabs) (t : Fin (cfgA ch).N),
    frTab0_5 ch (t.val + 1) = (((cfgA ch).win (5 : Fin 6)).flush t || ((cfgA ch).idle (5 : Fin 6) ((cfgA ch).grid.coords t) && frTab0_5 ch t.val)) := fun ch t => (allFacts ch t).2.1
theorem freshF0_5 (t : Fin (cfgA ch).N) : (cfgA ch).fresh (5 : Fin 6) t.val = frTab0_5 ch t.val :=
  Pipeline.Cfg.fresh_tab (cfgA ch) (5 : Fin 6) (frTab0_5 ch) rfl (frTab0_5_step ch) t.val (Nat.le_of_lt t.isLt)

theorem hyps0_A : ∀ (ch : Tabs) (t : Fin (cfgA ch).N), P0_0 ch t → P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((k0_cond2 (crd ch t) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.1

theorem hypsR0_A : ∀ (ch : Tabs) (t : Fin (cfgA ch).N), P0_0 ch t → P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((k0_cond2 (crd ch t) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := hyps0_A

theorem sched0_A : ∀ (ch : Tabs) (t : Fin (cfgA ch).N), P0_0 ch t → P0_1 ch t →
    (cfgA ch).idle (5 : Fin 6) ((cfgA ch).grid.coords t) = false ∧ ((cfgA ch).win (5 : Fin 6)).flush t = false ∧ (cfgA ch).fresh (5 : Fin 6) t.val = true ∧ sfresh0_0 ch (t.val + 1) = false := by
  intro ch t; rw [freshF0_5 ch t, sfreshS0_0 ch t]; exact (fun ch t => (allFacts ch t).2.2.2.1) ch t

theorem hyps0_B : ∀ (ch : Tabs) (t : Fin (cfgA ch).N), P0_0 ch t → ¬P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond2 (crd ch t) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.1

theorem hypsR0_B : ∀ (ch : Tabs) (t : Fin (cfgA ch).N), P0_0 ch t → ¬P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond2 (crd ch t) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := hyps0_B

theorem sched0_B : ∀ (ch : Tabs) (t : Fin (cfgA ch).N), P0_0 ch t → ¬P0_1 ch t →
    (cfgA ch).idle (5 : Fin 6) ((cfgA ch).grid.coords t) = false ∧ (cfgA ch).fresh (5 : Fin 6) t.val = false ∧ sfresh0_0 ch t.val = false ∧ sfresh0_0 ch (t.val + 1) = false := by
  intro ch t; rw [freshF0_5 ch t, sfreshF0_0 ch t, sfreshS0_0 ch t]; exact (fun ch t => (allFacts ch t).2.2.2.2.2.1) ch t

theorem hyps0_C : ∀ (ch : Tabs) (t : Fin (cfgA ch).N), ¬P0_0 ch t → P0_2 ch t →
    (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)) := fun ch t => (allFacts ch t).2.2.2.2.2.2.1

theorem hypsR0_C : ∀ (ch : Tabs) (t : Fin (cfgA ch).N), ¬P0_0 ch t → P0_2 ch t →
    (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)) := hyps0_C

theorem sched0_C : ∀ (ch : Tabs) (t : Fin (cfgA ch).N), ¬P0_0 ch t → P0_2 ch t →
    (cfgA ch).idle (5 : Fin 6) ((cfgA ch).grid.coords t) = false ∧ ((cfgA ch).win (5 : Fin 6)).flush t = false ∧ (cfgA ch).fresh (5 : Fin 6) t.val = true ∧ sfresh0_0 ch t.val = false ∧ sfresh0_0 ch (t.val + 1) = false := by
  intro ch t; rw [freshF0_5 ch t, sfreshF0_0 ch t, sfreshS0_0 ch t]; exact (fun ch t => (allFacts ch t).2.2.2.2.2.2.2.1) ch t

theorem hyps0_D : ∀ (ch : Tabs) (t : Fin (cfgA ch).N), ¬P0_0 ch t → ¬P0_2 ch t →
    (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)) := fun ch t => (allFacts ch t).2.2.2.2.2.2.2.2.1

theorem hypsR0_D : ∀ (ch : Tabs) (t : Fin (cfgA ch).N), ¬P0_0 ch t → ¬P0_2 ch t →
    (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)) := hyps0_D

theorem sched0_D : ∀ (ch : Tabs) (t : Fin (cfgA ch).N), ¬P0_0 ch t → ¬P0_2 ch t →
    (cfgA ch).idle (5 : Fin 6) ((cfgA ch).grid.coords t) = true ∧ (cfgA ch).fresh (5 : Fin 6) t.val = false ∧ sfresh0_0 ch t.val = false ∧ sfresh0_0 ch (t.val + 1) = false := by
  intro ch t; rw [freshF0_5 ch t, sfreshF0_0 ch t, sfreshS0_0 ch t]; exact (fun ch t => (allFacts ch t).2.2.2.2.2.2.2.2.2) ch t

/-- What the output block and the scratch hold after the body at a point, from what they held before it. -/
def step0 (c : Dev nD) (t : Fin (cfgA ch).N) (prev : (S512x2048.Idx → Elt Ideal .f32) × Buf (Elt Ideal) ((c : Thread nD τ).loc cc0_scratch0)) : (S512x2048.Idx → Elt Ideal .f32) × Buf (Elt Ideal) ((c : Thread nD τ).loc cc0_scratch0) :=
  if q0 : P0_0 ch t then
    if q1 : P0_1 ch t then
      (out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.1)
    else
      (out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.1 prev.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.1 prev.2 (hypsR0_B ch t q0 q1).1 (hypsR0_B ch t q0 q1).2.1 (hypsR0_B ch t q0 q1).2.2.1).2.1)
  else
    if q1 : P0_2 ch t then
      (out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_C ch t q0 q1).1 (hypsR0_C ch t q0 q1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_C ch t q0 q1).1 (hypsR0_C ch t q0 q1).2.1).2.1)
    else
      ((if (cfgA ch).fresh (5 : Fin 6) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_D ch t q0 q1).1 (hypsR0_D ch t q0 q1).2.1).1)

/-- What they hold after each point. -/
def traj0 (c : Dev nD) : (n : ℕ) → n < (cfgA ch).N → (S512x2048.Idx → Elt Ideal .f32) × Buf (Elt Ideal) ((c : Thread nD τ).loc cc0_scratch0)
  | 0, h => step0 ch m ρ c ⟨0, h⟩ (default, default)
  | n + 1, h => step0 ch m ρ c ⟨n + 1, h⟩ (traj0 c n (Nat.lt_of_succ_lt h))

def prev0 (c : Dev nD) (t : Fin (cfgA ch).N) : (S512x2048.Idx → Elt Ideal .f32) × Buf (Elt Ideal) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S512x2048.Idx → Elt Ideal .f32) × Buf (Elt Ideal) ((c : Thread nD τ).loc cc0_scratch0)) (q0 : P0_0 ch t) (q1 : P0_1 ch t) :
    step0 ch m ρ c t prev = (out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.1) := by
  unfold step0; simp only [dif_pos q0, dif_pos q1]

theorem step0_B (c : Dev nD) (t : Fin (cfgA ch).N) (prev : (S512x2048.Idx → Elt Ideal .f32) × Buf (Elt Ideal) ((c : Thread nD τ).loc cc0_scratch0)) (q0 : P0_0 ch t) (q1 : ¬P0_1 ch t) :
    step0 ch m ρ c t prev = (out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.1 prev.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.1 prev.2 (hypsR0_B ch t q0 q1).1 (hypsR0_B ch t q0 q1).2.1 (hypsR0_B ch t q0 q1).2.2.1).2.1) := by
  unfold step0; simp only [dif_pos q0, dif_neg q1]

theorem step0_C (c : Dev nD) (t : Fin (cfgA ch).N) (prev : (S512x2048.Idx → Elt Ideal .f32) × Buf (Elt Ideal) ((c : Thread nD τ).loc cc0_scratch0)) (q0 : ¬P0_0 ch t) (q1 : P0_2 ch t) :
    step0 ch m ρ c t prev = (out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_C ch t q0 q1).1 (hypsR0_C ch t q0 q1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_C ch t q0 q1).1 (hypsR0_C ch t q0 q1).2.1).2.1) := by
  unfold step0; simp only [dif_neg q0, dif_pos q1]

theorem step0_D (c : Dev nD) (t : Fin (cfgA ch).N) (prev : (S512x2048.Idx → Elt Ideal .f32) × Buf (Elt Ideal) ((c : Thread nD τ).loc cc0_scratch0)) (q0 : ¬P0_0 ch t) (q1 : ¬P0_2 ch t) :
    step0 ch m ρ c t prev = ((if (cfgA ch).fresh (5 : Fin 6) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_D ch t q0 q1).1 (hypsR0_D ch t q0 q1).2.1).1) := by
  unfold step0; simp only [dif_neg q0, dif_neg q1]

def prev0T (c : Dev nD) (t : Fin ((cfgA ch).N + 1)) : (S512x2048.Idx → Elt Ideal .f32) × Buf (Elt Ideal) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- What is held between two points: the scratch, and the halves of the tables that the body reads. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The contents of the windows at every point. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt).1
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt).1 := rfl

theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · by_cases q1 : P0_1 ch t
    · obtain ⟨i5, -, -, -⟩ := sched0_A ch t q0 q1
      rw [i5] at hi; exact absurd hi (by decide)
    · obtain ⟨i5, -, -, -⟩ := sched0_B ch t q0 q1
      rw [i5] at hi; exact absurd hi (by decide)
  · by_cases q1 : P0_2 ch t
    · obtain ⟨i5, -, -, -, -⟩ := sched0_C ch t q0 q1
      rw [i5] at hi; exact absurd hi (by decide)
    · rw [step0_D ch m ρ c t _ q0 q1]
      simp only [hf, Bool.false_eq_true, ↓reduceIte]
      unfold prev0; rw [dif_neg ht]

theorem before0_5 (c : Dev nD) (t : Fin (cfgA ch).N) (d) :
    (dats ch m ρ 0 c).before (5 : Fin 6) t d = if (cfgA ch).fresh (5 : Fin 6) t.val then d else (prev0 ch m ρ c t).1 := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA ch).N) : Prog (TpuEff nD τ sig (Elt Ideal) Λ₀ .tc) PUnit :=
  cc0_glu_expert (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (Memref.whole cc0_scratch0) (Memref.isWhole_whole _)

set_option maxHeartbeats 4000000 in
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i5, f5, fr5, sfn0⟩ := sched0_A ch t q0 q1
      have F0 := hypsR0_A ch t q0 q1
      have k0_h1 := F0.1; have F1 := F0.2
      have k0_h2 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩, ⟨%d5, H5⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) k0_h1 k0_h2 k0_h3).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      iintro ⟨H0, H1, H2, H3, H4, HT0, HT1, ⟨%e5, H5⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _)
    · obtain ⟨i5, fr5, sf0, sfn0⟩ := sched0_B ch t q0 q1
      have F0 := hypsR0_B ch t q0 q1
      have k0_h1 := F0.1; have F1 := F0.2
      have k0_h2 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩, ⟨%d5, H5⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ k0_h1 k0_h2 k0_h3).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      iintro ⟨H0, H1, H2, H3, H4, HT0, HT1, ⟨%e5, H5⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_B_5 c _ _ _ _ _ _ _ _ _ _ _ _ _ _ _ _ _ _ _ _ _ _ _ _ _)
  · by_cases q1 : P0_2 ch t
    · obtain ⟨i5, f5, fr5, sf0, sfn0⟩ := sched0_C ch t q0 q1
      have F0 := hypsR0_C ch t q0 q1
      have k0_h1 := F0.1; have F1 := F0.2
      have k0_h3 := F1.1; have F2 := F1.2
      clear F0 F1 F2
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩, ⟨%d5, H5⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h3).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      iintro ⟨H0, H1, H2, H3, H4, HT0, HT1, ⟨%e5, H5⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _ _)
    · obtain ⟨i5, fr5, sf0, sfn0⟩ := sched0_D ch t q0 q1
      have F0 := hypsR0_D ch t q0 q1
      have k0_h1 := F0.1; have F1 := F0.2
      have k0_h3 := F1.1; have F2 := F1.2
      clear F0 F1 F2
      cases f5 : ((cfgA ch).win (5 : Fin 6)).flush t
      · rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩, ⟨%d5, H5⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h3).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        iintro ⟨H0, H1, H2, H3, H4, HT0, HT1, H5, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ, fr5, Bool.false_eq_true, ↓reduceIte]
        simp only [exists_held sf0]
        iintro ⟨⟨HS0, HT0, HT1⟩, Ho, ⟨%d0, H0⟩, ⟨%d1, H1⟩, ⟨%d2, H2⟩, ⟨%d3, H3⟩, ⟨%d4, H4⟩, ⟨%d5, H5⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h3).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        iintro ⟨H0, H1, H2, H3, H4, HT0, HT1, H5, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5

theorem body_obligation (hp : Pinned ch m) (c : Dev nD) : BodyObligation (dats ch m ρ 0 c) (defs₀ (F := Ideal)) Variants.none () Set.univ := fun t => by
  rw [bigSep_W0]
  exact sound_body ch m ρ hp c t

def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 ch 0 = true from rfl)) Bool.false_ne_true
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The arrays after the last point. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call runs to its end and leaves every array as computed. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- The arguments end as they began. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats ch m ρ 0 c).arrAt_in (0 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _), ((h c).1 (4 : Fin 6)).trans ((dats ch m ρ 0 c).arrAt_in (4 : Fin 6) rfl _)⟩) (run_main ch m ρ hp)

/-- The arguments end as they began, and every counter at zero. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.Kernel3Ideal.Free

end
-- ==== Proof.ExpertStep.lean ====
module

public import proofs.«01_k».proof.Proof.ExpertRun
public import Idealize.ShloMosaic.Lib.Pointwise
public import Idealize.ShloMosaic.Lib.VecWindow

@[expose] public section

set_option maxRecDepth 65536

noncomputable section

namespace Cert.Expert

open Cert.Kernel3Ideal Cert.Kernel3Ideal.Gen Cert.Kernel3Ideal.Free
open Idealize.ShloMosaic
open Idealize.ShloMosaic.TcCoe Idealize.ShloMosaic.Tactic

variable (ch : Tabs) (m : (ℓ : Loc nD τ sig) → Buf (Elt Ideal) ℓ) (ρ : Dev nD → PrngReg) (c : Dev nD) (t : Fin (cfgA ch).N)

/-- What a point leaves: the output's block and the scratch. -/
abbrev St (c : Dev nD) : Type := (S512x2048.Idx → Elt Ideal .f32) × Buf (Elt Ideal) ((c : Thread nD τ).loc cc0_scratch0)

/-- The rows in what a point leaves. -/
abbrev kept (s : St c) : S512x2048.Idx → Elt Ideal .bf16 := View.read (Elt Ideal) scM0_0.view s.2

/-- A block held whole and loaded whole is read as it is. -/
theorem load_held {s : Shape} {e : EltTy} (a : Memref sig .tc .vmem s e) (h : a.IsWhole) (x : s.Idx → Elt Ideal e)
    (off : Fin s.rank → ℕ) (inb : ∀ d, off d + s.size d ≤ s.size d) :
    View.readAt (Elt Ideal) a.view (Rect.unit off s.size inb).toLoadRect (h.unread x) = x := by
  rw [View.readAt_full, h.read_unread]

/-- The rows, written down at the first point of a used block. -/
theorem kept_A (prev : St c) (q0 : P0_0 ch t) (q1 : P0_1 ch t) :
    kept c (step0 ch m ρ c t prev) = k0_pay1 (F := Ideal) (iblk ch m ρ c (0 : Fin 6) t) := by
  rw [kept, step0_A ch m ρ c t prev q0 q1]
  dsimp only
  delta kernelRun0_A
  dsimp only
  delta kernelRun0_A.sl.HS0_1
  refine (View.read_writes_full _ _ _ _ _).trans ?_
  rw [View.readAt_rep_full]

/-- The rows stay at the other points of a used block. -/
theorem kept_B (prev : St c) (q0 : P0_0 ch t) (q1 : ¬ P0_1 ch t) : kept c (step0 ch m ρ c t prev) = kept c prev := by
  rw [kept, step0_B ch m ρ c t prev q0 q1]
  dsimp only
  delta kernelRun0_B
  rfl

/-- The output's block after the first point of a used block. -/
theorem out_A (prev : St c) (q0 : P0_0 ch t) (q1 : P0_1 ch t) :
    (step0 ch m ρ c t prev).1 = k0_pay3 (F := Ideal) (k0_pay1 (F := Ideal) (iblk ch m ρ c (0 : Fin 6) t))
      (iblk ch m ρ c (2 : Fin 6) t) (iblk ch m ρ c (3 : Fin 6) t) (k0_pay2 (F := Ideal)) (iblk ch m ρ c (4 : Fin 6) t) := by
  rw [step0_A ch m ρ c t prev q0 q1]
  dsimp only
  delta out0_A_5 kernelRun0_A
  dsimp only
  delta kernelRun0_A.sl.HO5_2
  refine (View.read_writes_full _ _ _ _ _).trans ?_
  have e1 : kernelRun0_A.sl.v13 (ms0_0 ch t) (iblk ch m ρ c (0 : Fin 6) t) = k0_pay1 (F := Ideal) (iblk ch m ρ c (0 : Fin 6) t) := by
    delta kernelRun0_A.sl.v13 kernelRun0_A.sl.HS0_1
    refine (View.readCov_full _ _ _ _ _).trans ?_
    rw [View.readAt_rep_full]
  have e2 : kernelRun0_A.sl.v24 c (ms0_5 ch t) = k0_pay2 (F := Ideal) := by
    delta kernelRun0_A.sl.v24 kernelRun0_A.sl.HO5_1
    exact View.readCov_full _ _ _ _ _
  rw [e1, e2, View.readAt_rep_full, View.readAt_rep_full, View.readAt_rep_full]

/-- The output's block after another point of a used block. -/
theorem out_B (prev : St c) (q0 : P0_0 ch t) (q1 : ¬ P0_1 ch t) :
    (step0 ch m ρ c t prev).1 = k0_pay3 (F := Ideal) (kept c prev)
      (iblk ch m ρ c (2 : Fin 6) t) (iblk ch m ρ c (3 : Fin 6) t) prev.1 (iblk ch m ρ c (4 : Fin 6) t) := by
  rw [step0_B ch m ρ c t prev q0 q1]
  dsimp only
  delta out0_B_5 kernelRun0_B
  dsimp only
  delta kernelRun0_B.sl.HO5_1
  refine (View.read_writes_full _ _ _ _ _).trans ?_
  rw [load_held, View.readAt_rep_full, View.readAt_rep_full, View.readAt_rep_full, View.readAt_full]

/-- The output's block after the first point of a block past the used ones. -/
theorem out_C (prev : St c) (q0 : ¬ P0_0 ch t) (q2 : P0_2 ch t) : (step0 ch m ρ c t prev).1 = k0_pay4 (F := Ideal) := by
  rw [step0_C ch m ρ c t prev q0 q2]
  dsimp only
  delta out0_C_5 kernelRun0_C
  dsimp only
  delta kernelRun0_C.sl.HO5_1
  exact View.read_writes_full _ _ _ _ _

/-- The output's block stays at the other points of such a block. -/
theorem out_D (prev : St c) (q0 : ¬ P0_0 ch t) (q2 : ¬ P0_2 ch t) : (step0 ch m ρ c t prev).1 = prev.1 := by
  rw [step0_D ch m ρ c t prev q0 q2]
  dsimp only
  rw [(sched0_D ch t q0 q2).2.1]
  rfl

end Cert.Expert
-- ==== Proof.ExpertRead.lean ====
module

public import proofs.«01_k».proof.Proof.ExpertStep
public import proofs.«01_k».proof.Proof.Gen.Reference3Ideal.Run
public import Idealize.ShloMosaic.Lib.Tactic.CleanTypes

@[expose] public section

set_option maxRecDepth 16384

noncomputable section

namespace Cert.Expert

open Idealize.ShloMosaic
open Idealize.ShloMosaic.TcCoe Idealize.ShloMosaic.Tactic

/-- The gated product of two projections: the first by its logistic, by the second. -/
def gate (a b : EReal) : EReal := a * Ideal.logistic a * b

section
open Cert.Kernel3Ideal Cert.Kernel3Ideal.Gen

/-- The block's rows are kept as they are. -/
theorem pay1_at (x : Vec Ideal S512x2048 .f32) (r : Fin 512) (d : Fin 2048) : k0_pay1 x (ix2 r d) = x (ix2 r d) := by
  pointwise [k0_pay1]

/-- The output's block begins at zero. -/
theorem pay2_at (r : Fin 512) (j : Fin 2048) : k0_pay2 (F := Ideal) (ix2 r j) = (0 : EReal) := by
  pointwise [k0_pay2]

/-- A tile's contribution upon what the output's block held. -/
theorem pay3_at (h : Vec Ideal S512x2048 .bf16) (wg wu : Vec Ideal S1x2048x1024 .bf16) (o : Vec Ideal S512x2048 .f32) (wd : Vec Ideal S1x1024x2048 .bf16)
    (r : Fin 512) (j : Fin 2048) :
    k0_pay3 h wg wu o wd (ix2 r j) = o (ix2 r j) + ∑ k : Fin 1024, gate (∑ d : Fin 2048, h (ix2 r d) * wg (ix3 0 d k)) (∑ d : Fin 2048, h (ix2 r d) * wu (ix3 0 d k))
      * wd (ix3 0 k j) := by
  pointwise [k0_pay3]
  rfl

/-- A block past the used ones is zero. -/
theorem pay4_at (r : Fin 512) (j : Fin 2048) : k0_pay4 (F := Ideal) (ix2 r j) = (0 : EReal) := by
  pointwise [k0_pay4]

end

section
open Cert.Reference3Ideal Cert.Reference3Ideal.Gen

variable (B : IVec S140 32) (N : IVec S1 32) (X : FVec Ideal S71680x2048 .f32) (Wg Wu : FVec Ideal S8x2048x7168 .bf16) (Wd : FVec Ideal S8x7168x2048 .bf16)

/-- A projection of every row by every expert. -/
def proj (W : FVec Ideal S8x2048x7168 .bf16) : FVec Ideal S71680x8x7168 .f32 :=
  Host.dotGeneral dot_S71680x2048_S8x2048x7168_S71680x8x7168_1_1_0_02_n_n none (truncf .bf16 X bitsLt_bf16_f32) W

/-- The reference's hidden values. -/
def hidden : FVec Ideal S71680x8x7168 .bf16 :=
  truncf .bf16 (mulf (mulf (proj X Wg) (Host.divf (broadcastInDim S71680x8x7168 ![] bcast_S_S71680x8x7168 (constant S_ .f32 0x3F800000#32))
    (addf (broadcastInDim S71680x8x7168 ![] bcast_S_S71680x8x7168 (constant S_ .f32 0x3F800000#32)) (Host.exp (Host.negf (proj X Wg)))))) (proj X Wu)) bitsLt_bf16_f32

/-- Every expert's result at every row. -/
def outs : FVec Ideal S8x71680x2048 .f32 :=
  Host.dotGeneral dot_S71680x8x7168_S8x7168x2048_S8x71680x2048_2_1_0_2_1_0 none (hidden X Wg Wu) Wd

/-- A number for every block, for every row of the block. -/
def spread {w : ℕ} (v : IVec S140 w) : IVec S8x71680 w :=
  broadcastInDim S8x71680 ![0, 1] bcast_S1x71680_S8x71680_0_1 (broadcastInDim S1x71680 ![1] bcast_S71680_S1x71680_1
    (shapeCast S71680 (broadcastInDim S140x512 ![0] bcast_S140_S140x512_0 v) shapeCasts_S140x512_S71680))

/-- Which expert's result a row keeps. -/
def chosen : IVec S8x71680 1 :=
  andi (cmpi .eq (spread B) (broadcastInDim S8x71680 ![0, 1] bcast_S8x1_S8x71680_0_1 (broadcastInDim S8x1 ![0] bcast_S8_S8x1_0 (iotaInDim S8 32 0))))
    (spread (cmpi .slt (iotaInDim S140 32 0) (broadcastInDim S140 ![] bcast_S_S140 (shapeCast S_ N shapeCasts_S1_S_))))

/-- The results that are kept, the others zero. -/
def masked : FVec Ideal S8x71680x2048 .f32 :=
  select (broadcastInDim S8x71680x2048 ![0, 1, 2] bcast_S8x71680x1_S8x71680x2048_0_1_2 (broadcastInDim S8x71680x1 ![0, 1] bcast_S8x71680_S8x71680x1_0_1 (chosen B N)))
    (outs X Wg Wu Wd) (broadcastInDim S8x71680x2048 ![] bcast_S_S8x71680x2048 (id (constant S_ .f32 0x00000000#32)))

/-- The reference's result. -/
def whole : FVec Ideal S71680x2048 .f32 :=
  Host.reduceAdd (masked B N X Wg Wu Wd) (constant S_ .f32 0x00000000#32) reducesTo_S8x71680x2048_S71680x2048_d0 h_S_

/-- A projection at a row, an expert and a column. -/
theorem proj_at (W : FVec Ideal S8x2048x7168 .bf16) (R : Fin 71680) (e : Fin 8) (k : Fin 7168) :
    proj X W (ix3 R e k) = ∑ d : Fin 2048, X (ix2 R d) * W (ix3 e d k) := by
  pointwise [proj]

/-- A hidden value at a row, an expert and a column. -/
theorem hidden_at (R : Fin 71680) (e : Fin 8) (k : Fin 7168) :
    hidden X Wg Wu (ix3 R e k) = gate (proj X Wg (ix3 R e k)) (proj X Wu (ix3 R e k)) := by
  pointwise [hidden]
  rfl

/-- An expert's result at a row and a column. -/
theorem outs_at (e : Fin 8) (R : Fin 71680) (j : Fin 2048) :
    outs X Wg Wu Wd (ix3 e R j) = ∑ k : Fin 7168, hidden X Wg Wu (ix3 R e k) * Wd (ix3 e k j) := by
  pointwise [outs]

/-- The block of a row. -/
def bR (R : Fin 71680) : Fin 140 := ⟨R.val / 512, by omega⟩

/-- A block's number at a row is the row's block's. -/
theorem spread_at {w : ℕ} (v : IVec S140 w) (e : Fin 8) (R : Fin 71680) : spread v (ix2 e R) = v (ix1 (bR R)) := by
  pointwise [spread, bR]

/-- Which expert a row keeps, by its block's number. -/
theorem chosen_at (e : Fin 8) (R : Fin 71680) :
    chosen B N (ix2 e R) = IntOp.andi (IntOp.cmpi .eq (B (ix1 (bR R))) (BitVec.ofNat 32 e.val)) (IntOp.cmpi .slt (BitVec.ofNat 32 (bR R).val) (N (ix1 0))) := by
  pointwise [chosen, spread_at]

/-- A masked result. -/
theorem masked_at (e : Fin 8) (R : Fin 71680) (j : Fin 2048) :
    masked B N X Wg Wu Wd (ix3 e R j) = if chosen B N (ix2 e R) = 1#1 then outs X Wg Wu Wd (ix3 e R j) else (0 : EReal) := by
  pointwise [masked]
  exact congrArg (Scalar.select (chosen B N (ix2 e R)) (outs X Wg Wu Wd (ix3 e R j))) Ideal.ofBits_zero_f32

/-- The result at a row and a column. -/
theorem whole_at (R : Fin 71680) (j : Fin 2048) :
    whole B N X Wg Wu Wd (ix2 R j) = ∑ e : Fin 8, masked B N X Wg Wu Wd (ix3 e R j) := by
  pointwise [whole]

end

end Cert.Expert
-- ==== Proof.ExpertValue.lean ====
module

public import proofs.«01_k».proof.Proof.ExpertRead
public import Idealize.ShloMosaic.Lib.Pipeline.ValueKit

@[expose] public section

set_option maxRecDepth 16384

noncomputable section

namespace Cert.Expert

open Cert.Kernel3Ideal Cert.Kernel3Ideal.Gen Cert.Kernel3Ideal.Free
open Idealize.ShloMosaic
open Idealize.ShloMosaic.TcCoe Idealize.ShloMosaic.Tactic

variable (ch : Tabs) (m : (ℓ : Loc nD τ sig) → Buf (Elt Ideal) ℓ) (ρ : Dev nD → PrngReg) (c : Dev nD)

/-- With the plainest tables the output's blocks cover it. -/
theorem covers_plain : ((cfgA plain).win (5 : Fin 6)).Covers := by
  decide +kernel

/-- The output's blocks cover it. -/
theorem covers5 : ((cfgA ch).win (5 : Fin 6)).Covers := covers_plain

/-- The rows. -/
abbrev aX : S71680x2048.Idx → EReal := m ((c.tc : Thread nD τ).loc main_arg2)
/-- The gates' weights. -/
abbrev aWg : S8x2048x7168.Idx → EReal := m ((c.tc : Thread nD τ).loc main_arg4)
/-- The second projections' weights. -/
abbrev aWu : S8x2048x7168.Idx → EReal := m ((c.tc : Thread nD τ).loc main_arg5)
/-- The last projections' weights. -/
abbrev aWd : S8x7168x2048.Idx → EReal := m ((c.tc : Thread nD τ).loc main_arg6)

section
variable (t : Fin (cfgA ch).N)

/-- The grid's points: 140 blocks of rows by seven tiles. -/
theorem lt_points : t.val < 980 := t.isLt

/-- A point's block of rows. -/
def bT : Fin 140 := ⟨t.val / 7, by have := lt_points ch t; omega⟩

/-- A point's expert. -/
def eT : Fin 8 := ⟨expertAt ch (bT ch t), expertAt_lt ch _⟩

/-- Row `r` of a point's block. -/
def rT (r : Fin 512) : Fin 71680 := ⟨t.val / 7 * 512 + r.val, by have := lt_points ch t; omega⟩

/-- Column `k` of a point's tile. -/
def kT (k : Fin 1024) : Fin 7168 := ⟨t.val % 7 * 1024 + k.val, by omega⟩

theorem crd_bT : (crd ch t 0 : Fin 140) = bT ch t := Fin.ext (crd0 ch t)

/-- A used block's tiles are walked in order. -/
theorem tile_live (h : t.val / 7 < used ch) : tile ch (crd ch t) = t.val % 7 := by
  unfold tile
  rw [if_pos (by rw [crd0 ch]; exact h), crd1 ch]

/-- Where a used block's rows lie. -/
theorem place0 (h : t.val / 7 < used ch) : ((cfgA ch).win (0 : Fin 6)).index t = ![t.val / 7, 0] := by
  refine (index0 ch (crd ch t)).trans ?_
  rw [crd0 ch, Nat.min_eq_left (by omega)]

/-- Where the gate's weight lies. -/
theorem place2 (h : t.val / 7 < used ch) : ((cfgA ch).win (2 : Fin 6)).index t = ![(eT ch t).val, 0, t.val % 7] := by
  refine (index2 ch (crd ch t)).trans ?_
  rw [tile_live ch t h]
  exact congrArg (fun b => (![expertAt ch b, 0, t.val % 7] : Fin 3 → ℕ)) (crd_bT ch t)

/-- Where the second projection's weight lies. -/
theorem place3 (h : t.val / 7 < used ch) : ((cfgA ch).win (3 : Fin 6)).index t = ![(eT ch t).val, 0, t.val % 7] := by
  refine (index3 ch (crd ch t)).trans ?_
  rw [tile_live ch t h]
  exact congrArg (fun b => (![expertAt ch b, 0, t.val % 7] : Fin 3 → ℕ)) (crd_bT ch t)

/-- Where the last projection's weight lies. -/
theorem place4 (h : t.val / 7 < used ch) : ((cfgA ch).win (4 : Fin 6)).index t = ![(eT ch t).val, t.val % 7, 0] := by
  refine (index4 ch (crd ch t)).trans ?_
  rw [tile_live ch t h]
  exact congrArg (fun b => (![expertAt ch b, t.val % 7, 0] : Fin 3 → ℕ)) (crd_bT ch t)

theorem place5_plain : ∀ t : Fin (cfgA plain).N, ((cfgA plain).win (5 : Fin 6)).index t = ![t.val / 7, 0] := by
  decide +kernel

/-- Where the output's block lies. -/
theorem place5 : ((cfgA ch).win (5 : Fin 6)).index t = ![t.val / 7, 0] := place5_plain t

/-- A point's block of the rows. -/
theorem iblk0 (h : t.val / 7 < used ch) (r : Fin 512) (d : Fin 2048) : iblk ch m ρ c (0 : Fin 6) t (ix2 r d) = aX m c (ix2 (rT ch t r) d) := by
  have e := place0 ch t h
  blk_ext [iblk, e, rT]

/-- A point's block of the gate's weight. -/
theorem iblk2 (h : t.val / 7 < used ch) (d : Fin 2048) (k : Fin 1024) : iblk ch m ρ c (2 : Fin 6) t (ix3 0 d k) = aWg m c (ix3 (eT ch t) d (kT ch t k)) := by
  have e := place2 ch t h
  blk_ext [iblk, e, kT]

/-- A point's block of the second projection's weight. -/
theorem iblk3 (h : t.val / 7 < used ch) (d : Fin 2048) (k : Fin 1024) : iblk ch m ρ c (3 : Fin 6) t (ix3 0 d k) = aWu m c (ix3 (eT ch t) d (kT ch t k)) := by
  have e := place3 ch t h
  blk_ext [iblk, e, kT]

/-- A point's block of the last projection's weight. -/
theorem iblk4 (h : t.val / 7 < used ch) (k : Fin 1024) (j : Fin 2048) : iblk ch m ρ c (4 : Fin 6) t (ix3 0 k j) = aWd m c (ix3 (eT ch t) (kT ch t k) j) := by
  have e := place4 ch t h
  blk_ext [iblk, e, kT]

/-- Where an element of the output's block lies in the output. -/
theorem emb5 (r : Fin 512) (j : Fin 2048) :
    (((cfgA ch).win (5 : Fin 6)).blk t).view.emb (ix2 r j) = (ix2 (rT ch t r) j : S71680x2048.Idx) := by
  have e := place5 ch t
  blk_ext [e, rT]

end

/-- A hidden column's contribution to a row's result by an expert, the columns counted by all naturals. -/
def part (R : Fin 71680) (e : Fin 8) (j : Fin 2048) (k : ℕ) : EReal :=
  if h : k < 7168 then hidden (aX m c) (aWg m c) (aWu m c) (ix3 R e ⟨k, h⟩) * aWd m c (ix3 e ⟨k, h⟩ j) else 0

/-- What a used block's rows and output hold after a point, and that the output of another block is zero. -/
def Holds (t : Fin (cfgA ch).N) (s : St c) : Prop :=
  (t.val / 7 < used ch → (∀ (r : Fin 512) (d : Fin 2048), kept c s (ix2 r d) = aX m c (ix2 (rT ch t r) d))
    ∧ ∀ (r : Fin 512) (j : Fin 2048), s.1 (ix2 r j) = ∑ k ∈ Finset.range (t.val % 7 * 1024 + 1024), part m c (rT ch t r) (eT ch t) j k)
  ∧ (¬ t.val / 7 < used ch → ∀ (r : Fin 512) (j : Fin 2048), s.1 (ix2 r j) = (0 : EReal))

/-- The tile's sum at a point is the sum of its columns' contributions. -/
theorem tile_sum (t : Fin (cfgA ch).N) (l : t.val / 7 < used ch) (h : S512x2048.Idx → EReal)
    (hh : ∀ (r : Fin 512) (d : Fin 2048), h (ix2 r d) = aX m c (ix2 (rT ch t r) d)) (r : Fin 512) (j : Fin 2048) :
    (∑ k : Fin 1024, gate (∑ d : Fin 2048, h (ix2 r d) * iblk ch m ρ c (2 : Fin 6) t (ix3 0 d k)) (∑ d : Fin 2048, h (ix2 r d) * iblk ch m ρ c (3 : Fin 6) t (ix3 0 d k))
      * iblk ch m ρ c (4 : Fin 6) t (ix3 0 k j)) = ∑ k ∈ Finset.range 1024, part m c (rT ch t r) (eT ch t) j (t.val % 7 * 1024 + k) := by
  rw [Finset.sum_range]
  refine Finset.sum_congr rfl fun k _ => ?_
  have b : t.val % 7 * 1024 + k.val < 7168 := by omega
  rw [part, dif_pos b, hidden_at, proj_at, proj_at]
  simp only [hh]
  rw [iblk4 ch m ρ c t l]
  congr 2
  · exact Finset.sum_congr rfl fun d _ => congrArg _ (iblk2 ch m ρ c t l d k)
  · exact Finset.sum_congr rfl fun d _ => congrArg _ (iblk3 ch m ρ c t l d k)

/-- The rows of a used block, as its first point keeps them. -/
theorem kept_at (t : Fin (cfgA ch).N) (l : t.val / 7 < used ch) (r : Fin 512) (d : Fin 2048) :
    k0_pay1 (F := Ideal) (iblk ch m ρ c (0 : Fin 6) t) (ix2 r d) = aX m c (ix2 (rT ch t r) d) :=
  (pay1_at _ r d).trans (iblk0 ch m ρ c t l r d)

/-- The first point of a block. -/
theorem holds_first (t : Fin (cfgA ch).N) (prev : St c) (z : t.val % 7 = 0) : Holds ch m c t (step0 ch m ρ c t prev) := by
  refine ⟨fun l => ⟨fun r d => ?_, fun r j => ?_⟩, fun l r j => ?_⟩
  · rw [kept_A ch m ρ c t prev ((p0_iff ch t).2 l) ((p1_iff ch t).2 z)]
    exact kept_at ch m ρ c t l r d
  · rw [out_A ch m ρ c t prev ((p0_iff ch t).2 l) ((p1_iff ch t).2 z)]
    refine (pay3_at _ _ _ _ _ r j).trans ?_
    rw [tile_sum ch m ρ c t l _ (kept_at ch m ρ c t l) r j, pay2_at, z]
    simp only [zero_mul, zero_add]
  · rw [out_C ch m ρ c t prev (fun q => l ((p0_iff ch t).1 q)) ((p2_iff ch t).2 ⟨by omega, z⟩)]
    exact pay4_at r j

/-- Another point. -/
theorem holds_next (t t' : Fin (cfgA ch).N) (prev : St c) (z : ¬ t.val % 7 = 0) (e : t'.val + 1 = t.val) (h : Holds ch m c t' prev) :
    Holds ch m c t (step0 ch m ρ c t prev) := by
  have eb : t'.val / 7 = t.val / 7 := by omega
  have er : ∀ r, rT ch t' r = rT ch t r := fun r => Fin.ext (by show t'.val / 7 * 512 + _ = t.val / 7 * 512 + _; omega)
  have ee : eT ch t' = eT ch t := by
    have : bT ch t' = bT ch t := Fin.ext eb
    unfold eT
    simp only [this]
  have et : t.val % 7 * 1024 = t'.val % 7 * 1024 + 1024 := by omega
  obtain ⟨hl, hd⟩ := h
  simp only [eb, er, ee] at hl hd
  refine ⟨fun l => ⟨fun r d => ?_, fun r j => ?_⟩, fun l r j => ?_⟩
  · rw [kept_B ch m ρ c t prev ((p0_iff ch t).2 l) (fun q => z ((p1_iff ch t).1 q))]
    exact (hl l).1 r d
  · rw [out_B ch m ρ c t prev ((p0_iff ch t).2 l) (fun q => z ((p1_iff ch t).1 q))]
    refine (pay3_at _ _ _ _ _ r j).trans ?_
    rw [tile_sum ch m ρ c t l _ (hl l).1 r j, (hl l).2, et]
    exact (Finset.sum_range_add _ _ _).symm
  · rw [out_D ch m ρ c t prev (fun q => l ((p0_iff ch t).1 q)) (fun q => z ((p2_iff ch t).1 q).2)]
    exact hd l r j

/-- After every point the blocks hold what they should. -/
theorem holds (n : ℕ) : ∀ h : n < (cfgA ch).N, Holds ch m c ⟨n, h⟩ (traj0 ch m ρ c n h) := by
  induction n with
  | zero => exact fun h => holds_first ch m ρ c ⟨0, h⟩ _ rfl
  | succ n ih =>
    intro h
    by_cases z : (n + 1) % 7 = 0
    · exact holds_first ch m ρ c ⟨n + 1, h⟩ _ z
    · exact holds_next ch m ρ c ⟨n + 1, h⟩ ⟨n, Nat.lt_of_succ_lt h⟩ _ z rfl (ih _)

/-- A row's expert. -/
def eR (R : Fin 71680) : Fin 8 := ⟨expertAt ch (bR R), expertAt_lt ch _⟩

/-- The comparison of a block's number with an expert's. -/
theorem same_iff (w : BitVec 32) (e : Fin 8) : IntOp.cmpi .eq w (BitVec.ofNat 32 e.val) = if w.toNat = e.val then 1#1 else 0#1 := by
  have h : (w == BitVec.ofNat 32 e.val) = decide (w.toNat = e.val) := by
    rw [Bool.eq_iff_iff, beq_iff_eq, decide_eq_true_eq, ← BitVec.toNat_inj, BitVec.toNat_ofNat, Nat.mod_eq_of_lt (by omega)]
  show BitVec.ofBool (w == BitVec.ofNat 32 e.val) = _
  rw [h]
  by_cases q : w.toNat = e.val <;> simp [q]

theorem both_iff (p q : Prop) [Decidable p] [Decidable q] : IntOp.andi (if p then 1#1 else 0#1 : BitVec 1) (if q then 1#1 else 0#1) = 1#1 ↔ p ∧ q := by
  by_cases hp : p <;> by_cases hq : q <;> simp [hp, hq, IntOp.andi]

/-- A row keeps its block's expert's result, if its block is used. -/
theorem chosen_iff (e : Fin 8) (R : Fin 71680) : chosen ch.e ch.u (ix2 e R) = 1#1 ↔ eR ch R = e ∧ (bR R).val < used ch := by
  have h2 : IntOp.cmpi .slt (BitVec.ofNat 32 (bR R).val) (ch.u (ix1 0)) = if (bR R).val < used ch then 1#1 else 0#1 := by
    rw [u_eq ch]
    exact live_iff ch (bR R)
  have h3 : (ch.e (ix1 (bR R))).toNat = expertAt ch (bR R) := by
    refine congrArg (fun x => (ch.e x).toNat) (funext fun a => Fin.ext ?_)
    fin_cases a
    rfl
  have h1 := same_iff (ch.e (ix1 (bR R))) e
  rw [h3] at h1
  rw [chosen_at]
  refine Iff.trans (Eq.to_iff (congrArg (· = 1#1) (congrArg₂ IntOp.andi h1 h2))) ?_
  refine (both_iff _ _).trans ?_
  rw [Fin.ext_iff]
  rfl

/-- The reference's result at a row and a column. -/
theorem whole_eq (R : Fin 71680) (j : Fin 2048) :
    whole ch.e ch.u (aX m c) (aWg m c) (aWu m c) (aWd m c) (ix2 R j)
      = if (bR R).val < used ch then ∑ k ∈ Finset.range 7168, part m c R (eR ch R) j k else 0 := by
  rw [whole_at]
  simp only [masked_at, chosen_iff ch]
  by_cases h : (bR R).val < used ch
  · simp only [h, and_true, if_true]
    rw [Finset.sum_ite_eq, if_pos (Finset.mem_univ _), outs_at, Finset.sum_range]
    exact Finset.sum_congr rfl fun k _ => by rw [part, dif_pos k.isLt]
  · simp only [h, and_false, if_false, Finset.sum_const_zero]

/-- The output's array at the end is the reference's result. -/
theorem out5 : (dats ch m ρ 0 c).arrAt (5 : Fin 6) (cfgA ch).N = whole ch.e ch.u (aX m c) (aWg m c) (aWu m c) (aWd m c) := by
  refine (dats ch m ρ 0 c).arrAt_eq_of_covers (5 : Fin 6) _ (covers5 ch) fun t hd y => ?_
  blk_simp
  rw [after0_5]
  obtain ⟨r, j, rfl⟩ : ∃ (r : Fin 512) (j : Fin 2048), y = (ix2 r j : S512x2048.Idx) := ⟨y 0, y 1, funext fun a => by
    match a with
    | ⟨0, _⟩ => rfl
    | ⟨1, _⟩ => rfl⟩
  have hh := holds ch m ρ c t.val t.isLt
  refine Eq.trans ?_ (congrArg (whole ch.e ch.u (aX m c) (aWg m c) (aWu m c) (aWd m c)) (emb5 ch t r j)).symm
  refine Eq.trans ?_ (whole_eq ch m c (rT ch t r) j).symm
  have eb : bR (rT ch t r) = bT ch t := Fin.ext (by show (t.val / 7 * 512 + r.val) / 512 = t.val / 7; omega)
  have ee : eR ch (rT ch t r) = eT ch t := by
    unfold eR eT
    simp only [eb]
  have f : (t.val + 1) % 7 = 0 := of_decide_eq_true ((flush_eq ch t).symm.trans hd)
  have z : t.val % 7 * 1024 + 1024 = 7168 := by omega
  rw [ee, eb]
  by_cases l : t.val / 7 < used ch
  · rw [if_pos (show (bT ch t).val < used ch from l), ← z]
    exact (hh.1 l).2 r j
  · rw [if_neg (show ¬ (bT ch t).val < used ch from l)]
    exact hh.2 l r j

end Cert.Expert
-- ==== Proof.ExpertKRun.lean ====
module

public import proofs.«01_k».proof.Proof.ExpertKTabs

@[expose] public section

set_option maxRecDepth 16384

noncomputable section

namespace Cert.Kernel3.Free

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The algebra of the launch's resources. -/
abbrev EP : Emb (UR sig nD τ) 𝕄 := emb₁

variable (ch : Tabs)
variable (m : (ℓ : Loc nD τ sig) → Buf (Elt Bits) ℓ) (ρ : Dev nD → PrngReg)

theorem sfrTab0_0_step : ∀ (ch : Tabs) (t : Fin (cfgA ch).N), sfrTab0_0 ch (t.val + 1) = (if P0_0 ch t then (if P0_1 ch t then false else sfrTab0_0 ch t.val) else (if P0_2 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem frTab0_5_step : ∀ (ch : Tabs) (t : Fin (cfgA ch).N),
    frTab0_5 ch (t.val + 1) = (((cfgA ch).win (5 : Fin 6)).flush t || ((cfgA ch).idle (5 : Fin 6) ((cfgA ch).grid.coords t) && frTab0_5 ch t.val)) := fun ch t => (allFacts ch t).2.1
theorem freshF0_5 (t : Fin (cfgA ch).N) : (cfgA ch).fresh (5 : Fin 6) t.val = frTab0_5 ch t.val :=
  Pipeline.Cfg.fresh_tab (cfgA ch) (5 : Fin 6) (frTab0_5 ch) rfl (frTab0_5_step ch) t.val (Nat.le_of_lt t.isLt)

theorem hyps0_A : ∀ (ch : Tabs) (t : Fin (cfgA ch).N), P0_0 ch t → P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((k0_cond2 (crd ch t) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.1

theorem hypsR0_A : ∀ (ch : Tabs) (t : Fin (cfgA ch).N), P0_0 ch t → P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((k0_cond2 (crd ch t) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := hyps0_A

theorem sched0_A : ∀ (ch : Tabs) (t : Fin (cfgA ch).N), P0_0 ch t → P0_1 ch t →
    (cfgA ch).idle (5 : Fin 6) ((cfgA ch).grid.coords t) = false ∧ ((cfgA ch).win (5 : Fin 6)).flush t = false ∧ (cfgA ch).fresh (5 : Fin 6) t.val = true ∧ sfresh0_0 ch (t.val + 1) = false := by
  intro ch t; rw [freshF0_5 ch t, sfreshS0_0 ch t]; exact (fun ch t => (allFacts ch t).2.2.2.1) ch t

theorem hyps0_B : ∀ (ch : Tabs) (t : Fin (cfgA ch).N), P0_0 ch t → ¬P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond2 (crd ch t) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.1

theorem hypsR0_B : ∀ (ch : Tabs) (t : Fin (cfgA ch).N), P0_0 ch t → ¬P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond2 (crd ch t) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := hyps0_B

theorem sched0_B : ∀ (ch : Tabs) (t : Fin (cfgA ch).N), P0_0 ch t → ¬P0_1 ch t →
    (cfgA ch).idle (5 : Fin 6) ((cfgA ch).grid.coords t) = false ∧ (cfgA ch).fresh (5 : Fin 6) t.val = false ∧ sfresh0_0 ch t.val = false ∧ sfresh0_0 ch (t.val + 1) = false := by
  intro ch t; rw [freshF0_5 ch t, sfreshF0_0 ch t, sfreshS0_0 ch t]; exact (fun ch t => (allFacts ch t).2.2.2.2.2.1) ch t

theorem hyps0_C : ∀ (ch : Tabs) (t : Fin (cfgA ch).N), ¬P0_0 ch t → P0_2 ch t →
    (¬(k0_cond1 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)) := fun ch t => (allFacts ch t).2.2.2.2.2.2.1

theorem hypsR0_C : ∀ (ch : Tabs) (t : Fin (cfgA ch).N), ¬P0_0 ch t → P0_2 ch t →
    (¬(k0_cond1 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)) := hyps0_C

theorem sched0_C : ∀ (ch : Tabs) (t : Fin (cfgA ch).N), ¬P0_0 ch t → P0_2 ch t →
    (cfgA ch).idle (5 : Fin 6) ((cfgA ch).grid.coords t) = false ∧ ((cfgA ch).win (5 : Fin 6)).flush t = false ∧ (cfgA ch).fresh (5 : Fin 6) t.val = true ∧ sfresh0_0 ch t.val = false ∧ sfresh0_0 ch (t.val + 1) = false := by
  intro ch t; rw [freshF0_5 ch t, sfreshF0_0 ch t, sfreshS0_0 ch t]; exact (fun ch t => (allFacts ch t).2.2.2.2.2.2.2.1) ch t

theorem hyps0_D : ∀ (ch : Tabs) (t : Fin (cfgA ch).N), ¬P0_0 ch t → ¬P0_2 ch t →
    (¬(k0_cond1 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)) := fun ch t => (allFacts ch t).2.2.2.2.2.2.2.2.1

theorem hypsR0_D : ∀ (ch : Tabs) (t : Fin (cfgA ch).N), ¬P0_0 ch t → ¬P0_2 ch t →
    (¬(k0_cond1 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)) := hyps0_D

theorem sched0_D : ∀ (ch : Tabs) (t : Fin (cfgA ch).N), ¬P0_0 ch t → ¬P0_2 ch t →
    (cfgA ch).idle (5 : Fin 6) ((cfgA ch).grid.coords t) = true ∧ (cfgA ch).fresh (5 : Fin 6) t.val = false ∧ sfresh0_0 ch t.val = false ∧ sfresh0_0 ch (t.val + 1) = false := by
  intro ch t; rw [freshF0_5 ch t, sfreshF0_0 ch t, sfreshS0_0 ch t]; exact (fun ch t => (allFacts ch t).2.2.2.2.2.2.2.2.2) ch t

/-- What the output block and the scratch hold after the body at a point, from what they held before it. -/
def step0 (c : Dev nD) (t : Fin (cfgA ch).N) (prev : (S512x2048.Idx → Elt Bits .f32) × Buf (Elt Bits) ((c : Thread nD τ).loc cc0_scratch0)) : (S512x2048.Idx → Elt Bits .f32) × Buf (Elt Bits) ((c : Thread nD τ).loc cc0_scratch0) :=
  if q0 : P0_0 ch t then
    if q1 : P0_1 ch t then
      (out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.1)
    else
      (out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.1 prev.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.1 prev.2 (hypsR0_B ch t q0 q1).1 (hypsR0_B ch t q0 q1).2.1 (hypsR0_B ch t q0 q1).2.2.1).2.1)
  else
    if q1 : P0_2 ch t then
      (out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_C ch t q0 q1).1 (hypsR0_C ch t q0 q1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_C ch t q0 q1).1 (hypsR0_C ch t q0 q1).2.1).2.1)
    else
      ((if (cfgA ch).fresh (5 : Fin 6) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_D ch t q0 q1).1 (hypsR0_D ch t q0 q1).2.1).1)

/-- What they hold after each point. -/
def traj0 (c : Dev nD) : (n : ℕ) → n < (cfgA ch).N → (S512x2048.Idx → Elt Bits .f32) × Buf (Elt Bits) ((c : Thread nD τ).loc cc0_scratch0)
  | 0, h => step0 ch m ρ c ⟨0, h⟩ (default, default)
  | n + 1, h => step0 ch m ρ c ⟨n + 1, h⟩ (traj0 c n (Nat.lt_of_succ_lt h))

def prev0 (c : Dev nD) (t : Fin (cfgA ch).N) : (S512x2048.Idx → Elt Bits .f32) × Buf (Elt Bits) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S512x2048.Idx → Elt Bits .f32) × Buf (Elt Bits) ((c : Thread nD τ).loc cc0_scratch0)) (q0 : P0_0 ch t) (q1 : P0_1 ch t) :
    step0 ch m ρ c t prev = (out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1).2.1) := by
  unfold step0; simp only [dif_pos q0, dif_pos q1]

theorem step0_B (c : Dev nD) (t : Fin (cfgA ch).N) (prev : (S512x2048.Idx → Elt Bits .f32) × Buf (Elt Bits) ((c : Thread nD τ).loc cc0_scratch0)) (q0 : P0_0 ch t) (q1 : ¬P0_1 ch t) :
    step0 ch m ρ c t prev = (out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.1 prev.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.1 prev.2 (hypsR0_B ch t q0 q1).1 (hypsR0_B ch t q0 q1).2.1 (hypsR0_B ch t q0 q1).2.2.1).2.1) := by
  unfold step0; simp only [dif_pos q0, dif_neg q1]

theorem step0_C (c : Dev nD) (t : Fin (cfgA ch).N) (prev : (S512x2048.Idx → Elt Bits .f32) × Buf (Elt Bits) ((c : Thread nD τ).loc cc0_scratch0)) (q0 : ¬P0_0 ch t) (q1 : P0_2 ch t) :
    step0 ch m ρ c t prev = (out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_C ch t q0 q1).1 (hypsR0_C ch t q0 q1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_C ch t q0 q1).1 (hypsR0_C ch t q0 q1).2.1).2.1) := by
  unfold step0; simp only [dif_neg q0, dif_pos q1]

theorem step0_D (c : Dev nD) (t : Fin (cfgA ch).N) (prev : (S512x2048.Idx → Elt Bits .f32) × Buf (Elt Bits) ((c : Thread nD τ).loc cc0_scratch0)) (q0 : ¬P0_0 ch t) (q1 : ¬P0_2 ch t) :
    step0 ch m ρ c t prev = ((if (cfgA ch).fresh (5 : Fin 6) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2 (hypsR0_D ch t q0 q1).1 (hypsR0_D ch t q0 q1).2.1).1) := by
  unfold step0; simp only [dif_neg q0, dif_neg q1]

def prev0T (c : Dev nD) (t : Fin ((cfgA ch).N + 1)) : (S512x2048.Idx → Elt Bits .f32) × Buf (Elt Bits) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- What is held between two points: the scratch, and the halves of the tables that the body reads. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The contents of the windows at every point. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt).1
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt).1 := rfl

theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · by_cases q1 : P0_1 ch t
    · obtain ⟨i5, -, -, -⟩ := sched0_A ch t q0 q1
      rw [i5] at hi; exact absurd hi (by decide)
    · obtain ⟨i5, -, -, -⟩ := sched0_B ch t q0 q1
      rw [i5] at hi; exact absurd hi (by decide)
  · by_cases q1 : P0_2 ch t
    · obtain ⟨i5, -, -, -, -⟩ := sched0_C ch t q0 q1
      rw [i5] at hi; exact absurd hi (by decide)
    · rw [step0_D ch m ρ c t _ q0 q1]
      simp only [hf, Bool.false_eq_true, ↓reduceIte]
      unfold prev0; rw [dif_neg ht]

theorem before0_5 (c : Dev nD) (t : Fin (cfgA ch).N) (d) :
    (dats ch m ρ 0 c).before (5 : Fin 6) t d = if (cfgA ch).fresh (5 : Fin 6) t.val then d else (prev0 ch m ρ c t).1 := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA ch).N) : Prog (TpuEff nD τ sig (Elt Bits) Λ₀ .tc) PUnit :=
  cc0_glu_expert (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (Memref.whole cc0_scratch0) (Memref.isWhole_whole _)

set_option maxHeartbeats 4000000 in
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i5, f5, fr5, sfn0⟩ := sched0_A ch t q0 q1
      have F0 := hypsR0_A ch t q0 q1
      have k0_h1 := F0.1; have F1 := F0.2
      have k0_h2 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩, ⟨%d5, H5⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) k0_h1 k0_h2 k0_h3).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      iintro ⟨H0, H1, H2, H3, H4, HT0, HT1, ⟨%e5, H5⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _)
    · obtain ⟨i5, fr5, sf0, sfn0⟩ := sched0_B ch t q0 q1
      have F0 := hypsR0_B ch t q0 q1
      have k0_h1 := F0.1; have F1 := F0.2
      have k0_h2 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩, ⟨%d5, H5⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ k0_h1 k0_h2 k0_h3).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      iintro ⟨H0, H1, H2, H3, H4, HT0, HT1, ⟨%e5, H5⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_B_5 c _ _ _ _ _ _ _ _ _ _ _ _ _ _ _ _ _ _ _ _ _ _ _ _ _)
  · by_cases q1 : P0_2 ch t
    · obtain ⟨i5, f5, fr5, sf0, sfn0⟩ := sched0_C ch t q0 q1
      have F0 := hypsR0_C ch t q0 q1
      have k0_h1 := F0.1; have F1 := F0.2
      have k0_h3 := F1.1; have F2 := F1.2
      clear F0 F1 F2
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩, ⟨%d5, H5⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h3).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      iintro ⟨H0, H1, H2, H3, H4, HT0, HT1, ⟨%e5, H5⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_C_5 c _ _ _ _ _ _ _ _ _ _ _ _ _ _ _ _ _ _ _ _ _ _ _)
    · obtain ⟨i5, fr5, sf0, sfn0⟩ := sched0_D ch t q0 q1
      have F0 := hypsR0_D ch t q0 q1
      have k0_h1 := F0.1; have F1 := F0.2
      have k0_h3 := F1.1; have F2 := F1.2
      clear F0 F1 F2
      cases f5 : ((cfgA ch).win (5 : Fin 6)).flush t
      · rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩, ⟨%d5, H5⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h3).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        iintro ⟨H0, H1, H2, H3, H4, HT0, HT1, H5, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ, fr5, Bool.false_eq_true, ↓reduceIte]
        simp only [exists_held sf0]
        iintro ⟨⟨HS0, HT0, HT1⟩, Ho, ⟨%d0, H0⟩, ⟨%d1, H1⟩, ⟨%d2, H2⟩, ⟨%d3, H3⟩, ⟨%d4, H4⟩, ⟨%d5, H5⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h3).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        iintro ⟨H0, H1, H2, H3, H4, HT0, HT1, H5, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5

theorem body_obligation (hp : Pinned ch m) (c : Dev nD) : BodyObligation (dats ch m ρ 0 c) (defs₀ (F := Bits)) Variants.none () Set.univ := fun t => by
  rw [bigSep_W0]
  exact sound_body ch m ρ hp c t

def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 ch 0 = true from rfl)) Bool.false_ne_true
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The arrays after the last point. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call runs to its end and leaves every array as computed. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- The arguments end as they began. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats ch m ρ 0 c).arrAt_in (0 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _), ((h c).1 (4 : Fin 6)).trans ((dats ch m ρ 0 c).arrAt_in (4 : Fin 6) rfl _)⟩) (run_main ch m ρ hp)

/-- The arguments end as they began, and every counter at zero. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.Kernel3.Free

end
-- ==== Proof.ExpertClaim.lean ====
module

public import proofs.«01_k».proof.Proof.ExpertValue
public import proofs.«01_k».proof.Proof.ExpertKRun
public import proofs.«01_k».proof.Proof.Tables
public import Idealize.ShloMosaic.Adequacy
public import Idealize.ShloMosaic.Init

@[expose] public section

set_option maxRecDepth 16384

noncomputable section

namespace Cert.Expert

open Idealize.ShloMosaic
open Idealize.ShloMosaic.TcCoe Idealize.SL.Sem

/-- The shapes' relations that the precondition's operations take. -/
theorem preFacts : Cert.Pre_drawn3.Facts where
  bcast_S_S140 := by decide
  reducesTo_S140_S_d0 := by decide
  h_S_ := by decide
  bcast_S_S1 := by decide
  reducesTo_S1_S_d0 := by decide

/-- A truth value's bit. -/
theorem of_bit {b : Bool} (h : BitVec.ofBool b = 1#1) : b = true := by
  revert h
  cases b <;> decide

/-- A word between two others, as signed numbers, the lower not negative. -/
theorem between {lo w hi : BitVec 32} (l : lo.sle w = true) (h : w.sle hi = true) (p : lo.toNat < 2147483648) (q : hi.toNat < 2147483648) :
    lo.toNat ≤ w.toNat ∧ w.toNat ≤ hi.toNat := by
  simp only [BitVec.sle, decide_eq_true_eq, BitVec.toInt_eq_toNat_cond] at l h
  have := w.isLt
  split at l <;> split at l <;> split at h <;> omega

theorem sge_sle {a b : BitVec 32} (h : IntOp.cmpi .sge a b = 1#1) : b.sle a = true := of_bit h

/-- A word from one on, as a signed number, lies in the lower half. -/
theorem positive {w : BitVec 32} (l : (1#32).sle w = true) : 1 ≤ w.toNat ∧ w.toNat < 2147483648 := by
  have e1 : (1#32).toInt = 1 := by decide
  simp only [BitVec.sle, decide_eq_true_eq, e1, BitVec.toInt_eq_toNat_cond] at l
  have := w.isLt
  split at l <;> omega

/-- Under eight, as signed numbers, is at most seven. -/
theorem slt_seven {a : BitVec 32} (h : IntOp.cmpi .slt a 8#32 = 1#1) : a.sle 7#32 = true := by
  have h' : a.slt 8#32 = true := of_bit h
  simp only [BitVec.sle, BitVec.slt, decide_eq_true_eq] at h' ⊢
  have e8 : (8#32).toInt = 8 := by decide
  have e7 : (7#32).toInt = 7 := by decide
  omega

section
variable {F : FTy → Type} [FloatOps F]

attribute [local instance] preFacts

set_option maxHeartbeats 1000000 in
/-- The precondition says what the two tables hold. -/
theorem tables (a0 : IVec Cert.Pre_drawn3.S140 32) (a1 : IVec Cert.Pre_drawn3.S1 32) (x2 : FVec F Cert.Pre_drawn3.S71680x2048 .f32)
    (x3 : FVec F Cert.Pre_drawn3.S1x2048 .f32) (x4 x5 : FVec F Cert.Pre_drawn3.S8x2048x7168 .bf16) (x6 : FVec F Cert.Pre_drawn3.S8x7168x2048 .bf16)
    (h : Cert.Pre_drawn3.fn a0 a1 x2 x3 x4 x5 x6 = fun _ => 1#1) :
    (∀ i, (a0 i).toNat < 8) ∧ (∀ i, 1 ≤ (a1 i).toNat) ∧ ∀ i, (a1 i).toNat < 2147483648 := by
  have e := congrFun h (fun a => a.elim0)
  obtain ⟨e6, e9⟩ := Cert.Attn.andi_split e
  obtain ⟨e2, e5⟩ := Cert.Attn.andi_split e6
  have q0 : ∀ i, (0#32).sle (a0 i) = true := fun i => sge_sle (Host.reduce_andi_all _ _ _ _ _ e2 i)
  have q7 : ∀ i, (a0 i).sle 7#32 = true := fun i => slt_seven (Host.reduce_andi_all _ _ _ _ _ e5 i)
  have q1 : ∀ i, (1#32).sle (a1 i) = true := fun i => sge_sle (Host.reduce_andi_all _ _ _ _ _ e9 i)
  exact ⟨fun i => Nat.lt_succ_of_le (between (q0 i) (q7 i) (by decide) (by decide)).2, fun i => (positive (q1 i)).1, fun i => (positive (q1 i)).2⟩

end

attribute [local instance] preFacts

/-- The kernel's tables are in range. -/
theorem drawn_kernel (m : (ℓ : Loc Cert.Kernel3.nD Cert.Kernel3.τ Cert.Kernel3.sig) → Buf (Elt Bits) ℓ) (h : Cert.Pre_Kernel3 m) :
    ∃ ch : Cert.Kernel3.Free.Tabs, Cert.Kernel3.Free.Pinned ch m := by
  have q := tables _ _ _ _ _ _ _ (h 0)
  refine ⟨⟨m (((0 : Dev Cert.Kernel3.nD) : Thread Cert.Kernel3.nD Cert.Kernel3.τ).loc Cert.Kernel3.main_arg0),
    m (((0 : Dev Cert.Kernel3.nD) : Thread Cert.Kernel3.nD Cert.Kernel3.τ).loc Cert.Kernel3.main_arg1), q.1, q.2.1, q.2.2⟩, fun c => ?_, fun c => ?_⟩
  · have : c = 0 := Subsingleton.elim (α := Fin 1) c 0
    rw [this]
  · have : c = 0 := Subsingleton.elim (α := Fin 1) c 0
    rw [this]

/-- The idealized kernel's tables are in range. -/
theorem drawn_ideal (m : (ℓ : Loc Cert.Kernel3Ideal.nD Cert.Kernel3Ideal.τ Cert.Kernel3Ideal.sig) → Buf (Elt Ideal) ℓ) (h : Cert.Pre_Kernel3Ideal m) :
    ∃ ch : Cert.Kernel3Ideal.Free.Tabs, Cert.Kernel3Ideal.Free.Pinned ch m := by
  have q := tables _ _ _ _ _ _ _ (h 0)
  refine ⟨⟨m (((0 : Dev Cert.Kernel3Ideal.nD) : Thread Cert.Kernel3Ideal.nD Cert.Kernel3Ideal.τ).loc Cert.Kernel3Ideal.main_arg0),
    m (((0 : Dev Cert.Kernel3Ideal.nD) : Thread Cert.Kernel3Ideal.nD Cert.Kernel3Ideal.τ).loc Cert.Kernel3Ideal.main_arg1), q.1, q.2.1, q.2.2⟩, fun c => ?_, fun c => ?_⟩
  · have : c = 0 := Subsingleton.elim (α := Fin 1) c 0
    rw [this]
  · have : c = 0 := Subsingleton.elim (α := Fin 1) c 0
    rw [this]

/-- The frame of the kernel. -/
theorem frame_kernel : Cert.quiescent_Kernel3 (hKernel3 := Cert.Kernel3.Gen.facts) (hPre_drawn3 := preFacts) := fun m g h => by
  obtain ⟨ch, hp⟩ := drawn_kernel m h
  exact Cert.Kernel3.Free.frame ch m g hp

/-- The frame of the idealized kernel. -/
theorem frame_ideal : Cert.quiescent_Kernel3Ideal (hKernel3Ideal := Cert.Kernel3Ideal.Gen.facts) (hPre_drawn3 := preFacts) := fun m g h => by
  obtain ⟨ch, hp⟩ := drawn_ideal m h
  exact Cert.Kernel3Ideal.Free.frame ch m g hp

/-- The reference's frame. -/
theorem frame_ref : Cert.quiescent_Reference3Ideal (hReference3Ideal := Cert.Reference3Ideal.Gen.facts) :=
  fun m g _ => (θ_run _ _ _).mono (fun r h => ⟨fun c => (h c).2, sem_eq_zero_of_no_sems (by decide) r.2⟩) (Cert.Reference3Ideal.Value.run (F := Ideal) m g)

/-- The reference's frame under the precondition. -/
theorem frame_ref_drawn : Cert.quiescent_Reference3Ideal_pre_drawn3 (hReference3Ideal := Cert.Reference3Ideal.Gen.facts) (hPre_drawn3 := preFacts) :=
  fun m g _ => (θ_run _ _ _).mono (fun r h => ⟨fun c => (h c).2, sem_eq_zero_of_no_sems (by decide) r.2⟩) (Cert.Reference3Ideal.Value.run (F := Ideal) m g)

/-- The idealized kernel is the kernel. -/
theorem preserves : Cert.preserves_Kernel3_Kernel3Ideal := by
  trivial

/-- The kernel's result is the reference's. -/
theorem algebraic : Cert.algebraic_Kernel3Ideal_Reference3Ideal (hKernel3Ideal := Cert.Kernel3Ideal.Gen.facts)
    (hReference3Ideal := Cert.Reference3Ideal.Gen.facts) (hPre_drawn3 := preFacts) := by
  intro m g m' g' hp ha
  obtain ⟨ch, pin⟩ := drawn_ideal m hp
  refine ⟨fun c => whole ch.e ch.u (aX m c) (aWg m c) (aWu m c) (aWd m c), ?_, ?_⟩
  · refine (θ_run _ _ _).mono (fun r h c => ?_) (θ_run_and (Cert.Kernel3Ideal.Free.run_main ch m g pin) (Cert.Kernel3Ideal.Free.unchanged ch m g pin))
    have q := (h.1 c).1
    exact ⟨(q 5).trans (out5 ch m g c), h.2 c⟩
  · refine (θ_run _ _ _).mono (fun r h c => ?_) (Cert.Reference3Ideal.Value.run (F := Ideal) m' g')
    obtain ⟨a0, a1, a2, -, a4, a5, a6⟩ := ha c
    obtain ⟨r0, rest⟩ := h c
    refine ⟨r0.trans ?_, rest⟩
    rw [a0, a1, a2, a4, a5, a6]
    have p0 := pin.1 c
    have p1 := pin.2 c
    show whole _ _ _ _ _ _ = whole _ _ _ _ _ _
    exact congrArg₂ (fun B N => whole B N (aX m c) (aWg m c) (aWu m c) (aWd m c)) p0 p1

end Cert.Expert
-- ==== Proof.lean ====
module

public import proofs.«01_k».proof.Defs
public import proofs.«01_k».proof.Proof.Claim
public import proofs.«01_k».proof.Proof.DenseClaim
public import proofs.«01_k».proof.Proof.ExpertClaim

@[expose] public section

noncomputable section

namespace Cert.Proof

open Cert.Attn

/-- Every claim holds. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, preFacts, preFiniteFacts,
    Dense.preFacts, Expert.preFacts, frame_kernel, frame_ideal, frame_ideal_finite, frame_ref, frame_ref_finite, Dense.frame_kernel,
    Dense.frame_ideal, Dense.frame_ref, Dense.frame_ref_pinned, Expert.frame_kernel, Expert.frame_ideal, Expert.frame_ref, Expert.frame_ref_drawn,
    preserves, algebraic, Dense.preserves, Dense.algebraic, Expert.preserves, Expert.algebraic⟩

end Cert.Proof

end
